-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩

class Facts : Prop where
  shapeCasts_S2048x1_S2048 : S2048x1.ShapeCasts S2048
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  natLt_1_32 : 1 < 32
  reducesTo_S2048x2048_S2048_d1 : S2048x2048.ReducesTo [1] S2048
  h_S_ : 0 < S_.numel
  bcast_S_S2048 : S_.BroadcastsInDim S2048 (![] : Fin 0 → Fin S2048.rank)

variable [Facts]

def fn_part2 {F : FTy → Type} [FloatOps F] (main_v0 : IVec S2048 32) (main_v16 : IVec S2048 1) (main_v37 : IVec S2048 32) (main_v39 : IVec S2048 1) (main_v40 : IVec S2048 32) : IVec S2048 1 :=
  let main_v41 : IVec S2048 1 := cmpi .slt main_v0 main_v40
  let main_v42 : IVec S2048 1 := andi main_v39 main_v41
  let main_v43 : IVec S2048 1 := noti main_v16
  let main_c_6 : IVec S_ 32 := constantI S_ 32 64#32
  let main_v44 : IVec S2048 32 := broadcastInDim S2048 ![] bcast_S_S2048 main_c_6
  let main_v45 : IVec S2048 1 := cmpi .slt main_v37 main_v44
  let main_v46 : IVec S2048 1 := ori main_v43 main_v45
  let main_v47 : IVec S2048 1 := andi main_v42 main_v46
  main_v47

def fn_part1 {F : FTy → Type} [FloatOps F] (main_v0 : IVec S2048 32) (main_v1 : IVec S2048 32) (main_v6 : IVec S2048x2048 1) (main_v16 : IVec S2048 1) (main_v18 : IVec S2048 32) (main_v19 : IVec S2048 32) : IVec S2048 1 :=
  let main_v20 : IVec S2048 32 := Host.divsi main_v1 main_v19
  let main_v21 : IVec S1x2048 32 := broadcastInDim S1x2048 ![1] bcast_S2048_S1x2048_1 main_v20
  let main_v22 : IVec S2048x1 32 := broadcastInDim S2048x1 ![0] bcast_S2048_S2048x1_0 main_v20
  let main_v23 : IVec S2048x2048 32 := broadcastInDim S2048x2048 ![0, 1] bcast_S1x2048_S2048x2048_0_1 main_v21
  let main_v24 : IVec S2048x2048 32 := broadcastInDim S2048x2048 ![0, 1] bcast_S2048x1_S2048x2048_0_1 main_v22
  let main_v25 : IVec S2048x2048 1 := cmpi .eq main_v23 main_v24
  let main_v26 : IVec S2048x2048 1 := andi main_v6 main_v25
  let main_v27 : IVec S1x2048 32 := broadcastInDim S1x2048 ![1] bcast_S2048_S1x2048_1 main_v18
  let main_v28 : IVec S2048x1 32 := broadcastInDim S2048x1 ![0] bcast_S2048_S2048x1_0 main_v18
  let main_v29 : IVec S2048x2048 32 := broadcastInDim S2048x2048 ![0, 1] bcast_S1x2048_S2048x2048_0_1 main_v27
  let main_v30 : IVec S2048x2048 32 := broadcastInDim S2048x2048 ![0, 1] bcast_S2048x1_S2048x2048_0_1 main_v28
  let main_v31 : IVec S2048x2048 1 := cmpi .eq main_v29 main_v30
  let main_v32 : IVec S2048x2048 1 := andi main_v26 main_v31
  let main_v33 : IVec S1x2048 1 := broadcastInDim S1x2048 ![1] bcast_S2048_S1x2048_1 main_v16
  let main_v34 : IVec S2048x2048 1 := broadcastInDim S2048x2048 ![0, 1] bcast_S1x2048_S2048x2048_0_1 main_v33
  let main_v35 : IVec S2048x2048 1 := andi main_v32 main_v34
  let main_v36 : IVec S2048x2048 32 := (extui 32 · natLt_1_32) main_v35
  let main_c_3 : IVec S_ 32 := constantI S_ 32 0#32
  let main_v37 : IVec S2048 32 := (fun x v => Host.reduce IntOp.addi x v reducesTo_S2048x2048_S2048_d1 h_S_) main_v36 main_c_3
  let main_c_4 : IVec S_ 32 := constantI S_ 32 0#32
  let main_v38 : IVec S2048 32 := broadcastInDim S2048 ![] bcast_S_S2048 main_c_4
  let main_v39 : IVec S2048 1 := cmpi .sge main_v0 main_v38
  let main_c_5 : IVec S_ 32 := constantI S_ 32 64#32
  let main_v40 : IVec S2048 32 := broadcastInDim S2048 ![] bcast_S_S2048 main_c_5
  fn_part2 (F := F) main_v0 main_v16 main_v37 main_v39 main_v40

def fn {F : FTy → Type} [FloatOps F] (main_arg0 : FVec F S2048x512 .f32) (main_arg1 : FVec F S512x64 .f32) (main_arg2 : IVec S2048x1 32) (main_arg3 : FVec F S8x512x1024 .f32) : IVec S2048 1 :=
  let main_v0 : IVec S2048 32 := shapeCast S2048 main_arg2 shapeCasts_S2048x1_S2048
  let main_v1 : IVec S2048 32 := iotaInDim S2048 32 0
  let main_v2 : IVec S1x2048 32 := broadcastInDim S1x2048 ![1] bcast_S2048_S1x2048_1 main_v1
  let main_v3 : IVec S2048x1 32 := broadcastInDim S2048x1 ![0] bcast_S2048_S2048x1_0 main_v1
  let main_v4 : IVec S2048x2048 32 := broadcastInDim S2048x2048 ![0, 1] bcast_S1x2048_S2048x2048_0_1 main_v2
  let main_v5 : IVec S2048x2048 32 := broadcastInDim S2048x2048 ![0, 1] bcast_S2048x1_S2048x2048_0_1 main_v3
  let main_v6 : IVec S2048x2048 1 := cmpi .slt main_v4 main_v5
  let main_v7 : IVec S1x2048 32 := broadcastInDim S1x2048 ![1] bcast_S2048_S1x2048_1 main_v0
  let main_v8 : IVec S2048x1 32 := broadcastInDim S2048x1 ![0] bcast_S2048_S2048x1_0 main_v0
  let main_v9 : IVec S2048x2048 32 := broadcastInDim S2048x2048 ![0, 1] bcast_S1x2048_S2048x2048_0_1 main_v7
  let main_v10 : IVec S2048x2048 32 := broadcastInDim S2048x2048 ![0, 1] bcast_S2048x1_S2048x2048_0_1 main_v8
  let main_v11 : IVec S2048x2048 1 := cmpi .eq main_v9 main_v10
  let main_v12 : IVec S2048x2048 1 := andi main_v11 main_v6
  let main_v13 : IVec S2048x2048 32 := (extui 32 · natLt_1_32) main_v12
  let main_c : IVec S_ 32 := constantI S_ 32 0#32
  let main_v14 : IVec S2048 32 := (fun x v => Host.reduce IntOp.addi x v reducesTo_S2048x2048_S2048_d1 h_S_) main_v13 main_c
  let main_c_0 : IVec S_ 32 := constantI S_ 32 25#32
  let main_v15 : IVec S2048 32 := broadcastInDim S2048 ![] bcast_S_S2048 main_c_0
  let main_v16 : IVec S2048 1 := cmpi .slt main_v14 main_v15
  let main_c_1 : IVec S_ 32 := constantI S_ 32 8#32
  let main_v17 : IVec S2048 32 := broadcastInDim S2048 ![] bcast_S_S2048 main_c_1
  let main_v18 : IVec S2048 32 := Host.divsi main_v0 main_v17
  let main_c_2 : IVec S_ 32 := constantI S_ 32 256#32
  let main_v19 : IVec S2048 32 := broadcastInDim S2048 ![] bcast_S_S2048 main_c_2
  fn_part1 (F := F) main_v0 main_v1 main_v6 main_v16 main_v18 main_v19
-- ==== Pre_routed_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩

class Facts : Prop where
  shapeCasts_S2048x1_S2048 : S2048x1.ShapeCasts S2048
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  natLt_1_32 : 1 < 32
  reducesTo_S2048x2048_S2048_d1 : S2048x2048.ReducesTo [1] S2048
  h_S_ : 0 < S_.numel
  bcast_S_S2048 : S_.BroadcastsInDim S2048 (![] : Fin 0 → Fin S2048.rank)

variable [Facts]

def fn_part2 {F : FTy → Type} [FloatOps F] (main_v0 : IVec S2048 32) (main_v16 : IVec S2048 1) (main_v37 : IVec S2048 32) (main_v39 : IVec S2048 1) (main_v40 : IVec S2048 32) : IVec S2048 1 :=
  let main_v41 : IVec S2048 1 := cmpi .slt main_v0 main_v40
  let main_v42 : IVec S2048 1 := andi main_v39 main_v41
  let main_v43 : IVec S2048 1 := noti main_v16
  let main_c_6 : IVec S_ 32 := constantI S_ 32 64#32
  let main_v44 : IVec S2048 32 := broadcastInDim S2048 ![] bcast_S_S2048 main_c_6
  let main_v45 : IVec S2048 1 := cmpi .slt main_v37 main_v44
  let main_v46 : IVec S2048 1 := ori main_v43 main_v45
  let main_v47 : IVec S2048 1 := andi main_v42 main_v46
  main_v47

def fn_part1 {F : FTy → Type} [FloatOps F] (main_v0 : IVec S2048 32) (main_v1 : IVec S2048 32) (main_v6 : IVec S2048x2048 1) (main_v16 : IVec S2048 1) (main_v18 : IVec S2048 32) (main_v19 : IVec S2048 32) : IVec S2048 1 :=
  let main_v20 : IVec S2048 32 := Host.divsi main_v1 main_v19
  let main_v21 : IVec S1x2048 32 := broadcastInDim S1x2048 ![1] bcast_S2048_S1x2048_1 main_v20
  let main_v22 : IVec S2048x1 32 := broadcastInDim S2048x1 ![0] bcast_S2048_S2048x1_0 main_v20
  let main_v23 : IVec S2048x2048 32 := broadcastInDim S2048x2048 ![0, 1] bcast_S1x2048_S2048x2048_0_1 main_v21
  let main_v24 : IVec S2048x2048 32 := broadcastInDim S2048x2048 ![0, 1] bcast_S2048x1_S2048x2048_0_1 main_v22
  let main_v25 : IVec S2048x2048 1 := cmpi .eq main_v23 main_v24
  let main_v26 : IVec S2048x2048 1 := andi main_v6 main_v25
  let main_v27 : IVec S1x2048 32 := broadcastInDim S1x2048 ![1] bcast_S2048_S1x2048_1 main_v18
  let main_v28 : IVec S2048x1 32 := broadcastInDim S2048x1 ![0] bcast_S2048_S2048x1_0 main_v18
  let main_v29 : IVec S2048x2048 32 := broadcastInDim S2048x2048 ![0, 1] bcast_S1x2048_S2048x2048_0_1 main_v27
  let main_v30 : IVec S2048x2048 32 := broadcastInDim S2048x2048 ![0, 1] bcast_S2048x1_S2048x2048_0_1 main_v28
  let main_v31 : IVec S2048x2048 1 := cmpi .eq main_v29 main_v30
  let main_v32 : IVec S2048x2048 1 := andi main_v26 main_v31
  let main_v33 : IVec S1x2048 1 := broadcastInDim S1x2048 ![1] bcast_S2048_S1x2048_1 main_v16
  let main_v34 : IVec S2048x2048 1 := broadcastInDim S2048x2048 ![0, 1] bcast_S1x2048_S2048x2048_0_1 main_v33
  let main_v35 : IVec S2048x2048 1 := andi main_v32 main_v34
  let main_v36 : IVec S2048x2048 32 := (extui 32 · natLt_1_32) main_v35
  let main_c_3 : IVec S_ 32 := constantI S_ 32 0#32
  let main_v37 : IVec S2048 32 := (fun x v => Host.reduce IntOp.addi x v reducesTo_S2048x2048_S2048_d1 h_S_) main_v36 main_c_3
  let main_c_4 : IVec S_ 32 := constantI S_ 32 0#32
  let main_v38 : IVec S2048 32 := broadcastInDim S2048 ![] bcast_S_S2048 main_c_4
  let main_v39 : IVec S2048 1 := cmpi .sge main_v0 main_v38
  let main_c_5 : IVec S_ 32 := constantI S_ 32 64#32
  let main_v40 : IVec S2048 32 := broadcastInDim S2048 ![] bcast_S_S2048 main_c_5
  fn_part2 (F := F) main_v0 main_v16 main_v37 main_v39 main_v40

def fn {F : FTy → Type} [FloatOps F] (main_arg0 : FVec F S2048x512 .f32) (main_arg1 : FVec F S512x64 .f32) (main_arg2 : IVec S2048x1 32) (main_arg3 : FVec F S64x512x1024 .f32) : IVec S2048 1 :=
  let main_v0 : IVec S2048 32 := shapeCast S2048 main_arg2 shapeCasts_S2048x1_S2048
  let main_v1 : IVec S2048 32 := iotaInDim S2048 32 0
  let main_v2 : IVec S1x2048 32 := broadcastInDim S1x2048 ![1] bcast_S2048_S1x2048_1 main_v1
  let main_v3 : IVec S2048x1 32 := broadcastInDim S2048x1 ![0] bcast_S2048_S2048x1_0 main_v1
  let main_v4 : IVec S2048x2048 32 := broadcastInDim S2048x2048 ![0, 1] bcast_S1x2048_S2048x2048_0_1 main_v2
  let main_v5 : IVec S2048x2048 32 := broadcastInDim S2048x2048 ![0, 1] bcast_S2048x1_S2048x2048_0_1 main_v3
  let main_v6 : IVec S2048x2048 1 := cmpi .slt main_v4 main_v5
  let main_v7 : IVec S1x2048 32 := broadcastInDim S1x2048 ![1] bcast_S2048_S1x2048_1 main_v0
  let main_v8 : IVec S2048x1 32 := broadcastInDim S2048x1 ![0] bcast_S2048_S2048x1_0 main_v0
  let main_v9 : IVec S2048x2048 32 := broadcastInDim S2048x2048 ![0, 1] bcast_S1x2048_S2048x2048_0_1 main_v7
  let main_v10 : IVec S2048x2048 32 := broadcastInDim S2048x2048 ![0, 1] bcast_S2048x1_S2048x2048_0_1 main_v8
  let main_v11 : IVec S2048x2048 1 := cmpi .eq main_v9 main_v10
  let main_v12 : IVec S2048x2048 1 := andi main_v11 main_v6
  let main_v13 : IVec S2048x2048 32 := (extui 32 · natLt_1_32) main_v12
  let main_c : IVec S_ 32 := constantI S_ 32 0#32
  let main_v14 : IVec S2048 32 := (fun x v => Host.reduce IntOp.addi x v reducesTo_S2048x2048_S2048_d1 h_S_) main_v13 main_c
  let main_c_0 : IVec S_ 32 := constantI S_ 32 25#32
  let main_v15 : IVec S2048 32 := broadcastInDim S2048 ![] bcast_S_S2048 main_c_0
  let main_v16 : IVec S2048 1 := cmpi .slt main_v14 main_v15
  let main_c_1 : IVec S_ 32 := constantI S_ 32 8#32
  let main_v17 : IVec S2048 32 := broadcastInDim S2048 ![] bcast_S_S2048 main_c_1
  let main_v18 : IVec S2048 32 := Host.divsi main_v0 main_v17
  let main_c_2 : IVec S_ 32 := constantI S_ 32 256#32
  let main_v19 : IVec S2048 32 := broadcastInDim S2048 ![] bcast_S_S2048 main_c_2
  fn_part1 (F := F) main_v0 main_v1 main_v6 main_v16 main_v18 main_v19
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S256x1024 : Shape := ⟨2, ![256, 1024]⟩
abbrev S8x64x1024 : Shape := ⟨3, ![8, 64, 1024]⟩
abbrev S7 : Shape := ⟨1, ![7]⟩
abbrev S_ : Shape := ⟨0, ![]⟩
abbrev S2048x64 : Shape := ⟨2, ![2048, 64]⟩
abbrev S2048 : Shape := ⟨1, ![2048]⟩
abbrev S2048x8 : Shape := ⟨2, ![2048, 8]⟩
abbrev S8x256x8 : Shape := ⟨3, ![8, 256, 8]⟩
abbrev S8x1x8 : Shape := ⟨3, ![8, 1, 8]⟩
abbrev S2048x256 : Shape := ⟨2, ![2048, 256]⟩
abbrev S256x512 : Shape := ⟨2, ![256, 512]⟩
abbrev S32x512 : Shape := ⟨2, ![32, 512]⟩
abbrev S1x512x1024 : Shape := ⟨3, ![1, 512, 1024]⟩
abbrev S512x1024 : Shape := ⟨2, ![512, 1024]⟩
abbrev S32x1024 : Shape := ⟨2, ![32, 1024]⟩
abbrev S512x256 : Shape := ⟨2, ![512, 256]⟩
abbrev S64x1024 : Shape := ⟨2, ![64, 1024]⟩
abbrev S1x64x1024 : Shape := ⟨3, ![1, 64, 1024]⟩
abbrev S1 : Shape := ⟨1, ![1]⟩
abbrev S256x1 : Shape := ⟨2, ![256, 1]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S8x512x1024, .f32⟩
  | .hbm, ⟨4, _⟩ => ⟨S256x1024, .f32⟩
  | .local _ .vmem, ⟨0, _⟩ => ⟨S2048x1, .i32⟩
  | .local _ .vmem, ⟨1, _⟩ => ⟨S2048x512, .f32⟩
  | .local _ .vmem, ⟨2, _⟩ => ⟨S8x512x1024, .f32⟩
  | .local _ .vmem, ⟨3, _⟩ => ⟨S256x1024, .f32⟩
  | .local _ .vmem, ⟨4, _⟩ => ⟨S256x1024, .f32⟩
  | .local _ .vmem, ⟨5, _⟩ => ⟨S8x64x1024, .bf16⟩
  | .local _ .vmem, ⟨6, _⟩ => ⟨S8x64x1024, .bf16⟩
  | .local _ .vmem, ⟨7, _⟩ => ⟨S2048x1, .i32⟩
  | .local _ .vmem, ⟨8, _⟩ => ⟨S2048x1, .i32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_169 : BitVec 32 := 1#32
  let v379 : BitVec 32 := Scalar.addi v2 c1_i32_169
  let c8_i32_170 : BitVec 32 := 8#32
  let v380 : BitVec 32 := Scalar.remsi v379 c8_i32_170
  let c1_i32_175 : BitVec 32 := 1#32
  let v381 : BitVec 32 := Scalar.muli v380 c1_i32_175
  let v382 : BitVec 32 := Scalar.addi c0_i32_176 v381
  v382.toNat
def k0_dev9 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_181 : BitVec 32 := 2#32
  let v391 : BitVec 32 := Scalar.addi v2 c2_i32_181
  let c8_i32_182 : BitVec 32 := 8#32
  let v392 : BitVec 32 := Scalar.remsi v391 c8_i32_182
  let c1_i32_187 : BitVec 32 := 1#32
  let v393 : BitVec 32 := Scalar.muli v392 c1_i32_187
  let v394 : BitVec 32 := Scalar.addi c0_i32_188 v393
  v394.toNat
def k0_dev10 (d0 : Dev nD) : Nat :=
  let c0_i32_200 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_193 : BitVec 32 := 3#32
  let v403 : BitVec 32 := Scalar.addi v2 c3_i32_193
  let c8_i32_194 : BitVec 32 := 8#32
  let v404 : BitVec 32 := Scalar.remsi v403 c8_i32_194
  let c1_i32_199 : BitVec 32 := 1#32
  let v405 : BitVec 32 := Scalar.muli v404 c1_i32_199
  let v406 : BitVec 32 := Scalar.addi c0_i32_200 v405
  v406.toNat
def k0_dev11 (d0 : Dev nD) : Nat :=
  let c0_i32_212 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_205 : BitVec 32 := 4#32
  let v415 : BitVec 32 := Scalar.addi v2 c4_i32_205
  let c8_i32_206 : BitVec 32 := 8#32
  let v416 : BitVec 32 := Scalar.remsi v415 c8_i32_206
  let c1_i32_211 : BitVec 32 := 1#32
  let v417 : BitVec 32 := Scalar.muli v416 c1_i32_211
  let v418 : BitVec 32 := Scalar.addi c0_i32_212 v417
  v418.toNat
def k0_dev12 (d0 : Dev nD) : Nat :=
  let c0_i32_224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_217 : BitVec 32 := 5#32
  let v427 : BitVec 32 := Scalar.addi v2 c5_i32_217
  let c8_i32_218 : BitVec 32 := 8#32
  let v428 : BitVec 32 := Scalar.remsi v427 c8_i32_218
  let c1_i32_223 : BitVec 32 := 1#32
  let v429 : BitVec 32 := Scalar.muli v428 c1_i32_223
  let v430 : BitVec 32 := Scalar.addi c0_i32_224 v429
  v430.toNat
def k0_dev13 (d0 : Dev nD) : Nat :=
  let c0_i32_236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_229 : BitVec 32 := 6#32
  let v439 : BitVec 32 := Scalar.addi v2 c6_i32_229
  let c8_i32_230 : BitVec 32 := 8#32
  let v440 : BitVec 32 := Scalar.remsi v439 c8_i32_230
  let c1_i32_235 : BitVec 32 := 1#32
  let v441 : BitVec 32 := Scalar.muli v440 c1_i32_235
  let v442 : BitVec 32 := Scalar.addi c0_i32_236 v441
  v442.toNat
def k0_dev14 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_241 : BitVec 32 := 7#32
  let v451 : BitVec 32 := Scalar.addi v2 c7_i32_241
  let c8_i32_242 : BitVec 32 := 8#32
  let v452 : BitVec 32 := Scalar.remsi v451 c8_i32_242
  let c1_i32_247 : BitVec 32 := 1#32
  let v453 : BitVec 32 := Scalar.muli v452 c1_i32_247
  let v454 : BitVec 32 := Scalar.addi c0_i32_248 v453
  v454.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_253 : BitVec 32 := 256#32
  let v463 : BitVec 32 := Scalar.muli v2 c256_i32_253
  let v464 : Index := Scalar.indexCast v463
  let c0_254 : Index := 0#32
  ![v464.toNat, 0]
abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S64x512x1024, .f32⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S2048x1, .i32⟩
  | .hbm, ⟨21, _⟩ => ⟨S2048x512x1024, .f32⟩
  | .hbm, ⟨22, _⟩ => ⟨S2048x1024, .f32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048x1, .i1⟩
  | .hbm, ⟨27, _⟩ => ⟨S_, .f32⟩
  | .hbm, ⟨28, _⟩ => ⟨S2048x1024, .i1⟩
  | .hbm, ⟨29, _⟩ => ⟨S2048x1024, .f32⟩
  | .hbm, ⟨30, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_call0_v0 : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_call1_v0 : Ref sig .tc := ⟨.hbm, 28, rfl⟩
abbrev main_call1_v1 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Proof.Contents.lean ====
/-
What every buffer of one device holds, as pure functions of the arguments: the route column `e`, the tokens `x`, and
this device's eight experts `W`. The names follow the kernel's steps: rank of a token at its expert, position of a
token in its bucket, the packed products (`chunk`), the rows sent (`send`), the rows received (`recv`), the result.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Run

open Cert.KernelIdeal Cert.KernelIdeal.Gen
open Idealize.ShloMosaic Idealize.ShloMosaic.TcCoe
open Idealize.SL.Sem

variable {F : FTy → Type} [FloatOps F]

/-! ## The mesh -/

/-- The device `i + 1` places after `c`. -/
def peer (c : Dev nD) (i : Fin 7) : Dev nD := ⟨(c.val + i.val + 1) % 8, Nat.mod_lt _ (Nat.succ_pos 7)⟩

/-- Going on and then going on the rest of the way comes back. -/
theorem peer_peer (c : Dev nD) (i : Fin 7) : peer (peer c i) i.rev = c := by revert c i; decide
/-- The same, the other way first. -/
theorem peer_peer' (c : Dev nD) (i : Fin 7) : peer (peer c i.rev) i = c := by revert c i; decide

/-! ## The memrefs -/

abbrev eM : Memref sig .tc .vmem S2048x1 .i32 := Memref.whole cc0_stg0_0
abbrev xM : Memref sig .tc .vmem S2048x512 .f32 := Memref.whole cc0_stg1_0
abbrev wM : Memref sig .tc .vmem S8x512x1024 .f32 := Memref.whole cc0_stg2_0
abbrev oM : Memref sig .tc .vmem S256x1024 .f32 := Memref.whole cc0_stg3_0
abbrev cM : Memref sig .tc .vmem S256x1024 .f32 := Memref.whole cc0_scratch0
abbrev sM : Memref sig .tc .vmem S8x64x1024 .bf16 := Memref.whole cc0_scratch1
abbrev rM : Memref sig .tc .vmem S8x64x1024 .bf16 := Memref.whole cc0_scratch2
abbrev kM : Memref sig .tc .vmem S2048x1 .i32 := Memref.whole cc0_scratch3
abbrev pM : Memref sig .tc .vmem S2048x1 .i32 := Memref.whole cc0_scratch4

/-- An expert's matrix lies within the experts held. -/
theorem slab_inb (l : Fin 8) : ∀ a, (![l.val, 0, 0] : Fin 3 → ℕ) a + S1x512x1024.size a ≤ S8x512x1024.size a := by
  revert l; decide
/-- An expert's rows lie within the chunk. -/
theorem rows_inb (l : Fin 8) : ∀ a, (![32 * l.val, 0] : Fin 2 → ℕ) a + S32x1024.size a ≤ S256x1024.size a := by
  revert l; decide
/-- A slot lies within its buffer. -/
theorem slot_inb (k : Fin 8) : ∀ a, (![k.val, 0, 0] : Fin 3 → ℕ) a + S1x64x1024.size a ≤ S8x64x1024.size a := by
  revert k; decide

/-- One expert's matrix inside the eight of a device. -/
abbrev slabRect (l : Fin 8) : Rect S8x512x1024 := Rect.unit (s := S8x512x1024) ![l.val, 0, 0] S1x512x1024.size (slab_inb l)
/-- The 32 rows of the packed products that belong to one expert. -/
abbrev rowsRect (l : Fin 8) : Rect S256x1024 := Rect.unit (s := S256x1024) ![32 * l.val, 0] S32x1024.size (rows_inb l)
/-- One slot of 64 rows of a buffer of eight. -/
abbrev slotRect (k : Fin 8) : Rect S8x64x1024 := Rect.unit (s := S8x64x1024) ![k.val, 0, 0] S1x64x1024.size (slot_inb k)
/-- The 256 tokens whose results a device makes. -/
abbrev ownRect (c : Dev nD) : Rect S2048x1 := Rect.unit (s := S2048x1) (k0_off1 c) S256x1.size (k0_off1_inb c)

/-! ## What the steps compute -/

section Values

variable (c : Dev nD) (e : Vec F S2048x1 .i32) (x : Vec F S2048x512 .f32) (W : Vec F S8x512x1024 .f32)

/-- The device's place along the mesh axis, as the kernel computes it. -/
abbrev myW : BitVec 32 := Scalar.remsi (Scalar.divsi (Dev.word c) 1#32) 8#32

abbrev iota64 : IVec S2048x64 32 := iota .tc S2048x64 32 [0] iota_S2048x64_d0_w32
abbrev iota8 : IVec S2048x8 32 := iota .tc S2048x8 32 [0] iota_S2048x8_d0_w32

/-- How many tokens up to each one go to each expert, before the last shift's sum. -/
def cnt : FVec F S2048x64 .f32 := k0_pay7 iota64 (k0_pay4 e) k0_pay5 (k0_pay6 (F := F) e) (Scalar.ofBits .f32 0x00000000#32)
abbrev lateM : IVec S2048x64 1 := k0_pay8 iota64
/-- Each token's rank at its expert, as a word. -/
def keepV := k0_pay9 (k0_pay3 e) (cnt e) lateM
/-- Each token's rank at its expert. -/
def rankV : IVec S2048x1 32 := k0_pay10 (k0_pay3 e) (cnt e) lateM
def keepB := k0_pay11 (k0_pay3 (F := F) e) (cnt e) lateM
/-- Kept tokens by owner. -/
def ownA := k0_pay12 (k0_pay2 (F := F) e) (k0_pay3 (F := F) e) (cnt e) lateM
/-- Each token's position in its bucket. -/
def posV : IVec S2048x1 32 :=
  k0_pay17 (ownA (F := F) e) iota8 (k0_pay13 (ownA (F := F) e) iota8) (k0_pay14 iota8) (k0_pay15 (ownA (F := F) e) iota8) (Scalar.ofBits .f32 0x00000000#32)
def posOK :=
  k0_pay16 (ownA (F := F) e) iota8 (k0_pay13 (ownA (F := F) e) iota8) (k0_pay14 iota8) (k0_pay15 (ownA (F := F) e) iota8) (Scalar.ofBits .f32 0x00000000#32)
/-- Each token's expert relative to the device's first one. -/
def relV : IVec S2048x1 32 := k0_pay18 (myW c) (k0_pay2 (F := F) e)

def slab (l : Fin 8) : Vec F S1x512x1024 .f32 := (wM : Memref sig .tc .vmem S8x512x1024 .f32).view.readAt (Elt F) (slabRect l).toLoadRect W

/-- The 32 rows of products of expert `l`. -/
def chunkBlk (l : Fin 8) : FVec F S32x1024 .f32 := match l with
  | 0 => k0_pay22 (keepV (F := F) e) (relV (F := F) c e) x (slab W 0)
  | 1 => k0_pay23 (keepV (F := F) e) (relV (F := F) c e) x (slab W 1)
  | 2 => k0_pay25 (k0_pay24 (keepV (F := F) e) (relV (F := F) c e) x) (slab W 2)
  | 3 => k0_pay26 (k0_pay21 (keepV (F := F) e) (relV (F := F) c e) x) (slab W 3)
  | 4 => k0_pay27 (k0_pay21 (keepV (F := F) e) (relV (F := F) c e) x) (slab W 4)
  | 5 => k0_pay28 (k0_pay21 (keepV (F := F) e) (relV (F := F) c e) x) (slab W 5)
  | 6 => k0_pay31 (k0_pay29 (k0_pay21 (keepV (F := F) e) (relV (F := F) c e) x)) (k0_pay30 (slab W 6)) (constant S32x1024 .f32 0x00000000#32)
  | 7 => k0_pay32 (k0_pay21 (keepV (F := F) e) (relV (F := F) c e) x) (slab W 7)

/-- Row `i` of the packed products lies in block `i / 32`. -/
def rowBlk (i : S256x1024.Idx) : Fin 8 := ⟨(i 0).val / 32, Nat.div_lt_of_lt_mul (i 0).isLt⟩
def rowIn (i : S256x1024.Idx) : S32x1024.Idx := Fin.cons ⟨(i 0).val % 32, Nat.mod_lt _ (Nat.succ_pos 31)⟩ (Fin.cons (i 1) (fun a => a.elim0))

/-- The packed products. -/
def chunkV : FVec F S256x1024 .f32 := fun i => chunkBlk c e x W (rowBlk i) (rowIn i)

/-- The rows device `c` sends: slot `d` for the device `d` places after it. -/
def sendV : FVec F S8x64x1024 .bf16 :=
  k0_pay35 (keepB (F := F) e) (posOK (F := F) e) (k0_pay19 (relV (F := F) c e)) (k0_pay20 (F := F) (keepV (F := F) e) (relV (F := F) c e)) (k0_pay33 (myW c)) 8#32 0#32 (chunkV c e x W)
def selfV : FVec F S1x64x1024 .bf16 :=
  k0_pay36 (keepB (F := F) e) (posOK (F := F) e) (k0_pay19 (relV (F := F) c e)) (k0_pay20 (F := F) (keepV (F := F) e) (relV (F := F) c e)) (k0_pay33 (myW c)) 8#32 0#32 (chunkV c e x W)

end Values

/-! ## What the devices hold, from the memory at launch -/

section Mem

variable (m : (ℓ : Loc nD τ sig) → Buf (Elt F) ℓ)

def eAt (c : Dev nD) : (cc0_stg0_0 : Ref sig .tc).ty.Contents (Elt F) := (win0_0.blk (0 : Fin 1)).view.read (Elt F) (m ((c : Thread nD τ).loc main_arg2))
def xAt (c : Dev nD) : (cc0_stg1_0 : Ref sig .tc).ty.Contents (Elt F) := (win0_1.blk (0 : Fin 1)).view.read (Elt F) (m ((c : Thread nD τ).loc main_arg0))
def wAt (c : Dev nD) : (cc0_stg2_0 : Ref sig .tc).ty.Contents (Elt F) := (win0_2.blk (0 : Fin 1)).view.read (Elt F) (m ((c : Thread nD τ).loc main_arg3))

/-- The rows device `c` sends. -/
def sendAt (c : Dev nD) : (cc0_scratch1 : Ref sig .tc).ty.Contents (Elt F) := sendV c (eAt m c) (xAt m c) (wAt m c)

def selfIn (i : S8x64x1024.Idx) : S1x64x1024.Idx := Fin.cons ⟨0, Nat.one_pos⟩ (Fin.cons (i 1) (Fin.cons (i 2) (fun a => a.elim0)))

/-- The rows device `c` receives: slot 0 from itself, slot `k + 1` from the device `k + 1` places before it. -/
def recvAt (c : Dev nD) : (cc0_scratch2 : Ref sig .tc).ty.Contents (Elt F) := fun i =>
  if h : (i 0).val = 0 then selfV c (eAt m c) (xAt m c) (wAt m c) (selfIn i)
  else sendAt m (peer c (Fin.rev ⟨(i 0).val - 1, by have : (i 0).val < 8 := (i 0).isLt; omega⟩)) i

/-- The result on device `c`. -/
def outAt (c : Dev nD) : (cc0_stg3_0 : Ref sig .tc).ty.Contents (Elt F) :=
  k0_pay1 (k0_pay39 ((kM : Memref sig .tc .vmem S2048x1 .i32).view.readAt (Elt F) (ownRect c).toLoadRect (rankV (F := F) (eAt m c)))
      ((pM : Memref sig .tc .vmem S2048x1 .i32).view.readAt (Elt F) (ownRect c).toLoadRect (posV (F := F) (eAt m c)))
      (Scalar.select (Scalar.cmpi .eq 8#32 0#32) 1#32 8#32)
      (k0_pay37 (myW c) ((eM : Memref sig .tc .vmem S2048x1 .i32).view.readAt (Elt F) (ownRect c).toLoadRect (eAt m c)))
      (k0_pay38 (myW c) ((eM : Memref sig .tc .vmem S2048x1 .i32).view.readAt (Elt F) (ownRect c).toLoadRect (eAt m c)))) (recvAt m c)

end Mem

end Cert.KernelIdeal.Run

end
-- ==== Proof.Protocol.lean ====
/-
The protocol between the devices, as a schedule of one round: who pays which semaphore, with what in hand.

Device `p` signals the barrier of each of its seven peers, and with the signal to the device `j + 1` places after it
lends that device one slot of its own receive buffer. Having waited for seven signals a device holds one slot of each
peer, sends its rows there, and later waits for its own seven slots and for its seven sends.
-/
module

public import proofs.«01_k».proof.Proof.Contents
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- A semaphore lies within its array. -/
theorem sem_inb (i : Fin 7) : ∀ a, (![i.val] : Fin 1 → ℕ) a + S1.size a ≤ S7.size a := by revert i; decide

abbrev barS : Sem sig := (SemArray.scalar (sig.barrier 0 rfl) : Sems sig S_).sem
abbrev sendSem (i : Fin 7) : DmaSem sig := ((cc0_scratch5.slice (Rect.unit (s := S7) ![i.val] S1.size (sem_inb i))).squeeze S_ squeezes_S1_S_).sem
abbrev recvSem (i : Fin 7) : DmaSem sig := ((cc0_scratch6.slice (Rect.unit (s := S7) ![i.val] S1.size (sem_inb i))).squeeze S_ squeezes_S1_S_).sem

/-- The number of a send semaphore. -/
theorem sendSem_val (i : Fin 7) : (sendSem i).val = 4 + i.val := by revert i; decide
/-- The number of a receive semaphore. -/
theorem recvSem_val (i : Fin 7) : (recvSem i).val = 11 + i.val := by revert i; decide

abbrev barCell (c : Dev nD) : GSem nD τ sig := ((c : Thread nD τ), .reg barS)
abbrev sendCell (c : Dev nD) (i : Fin 7) : GSem nD τ sig := ((c : Thread nD τ), .dma (sendSem i))
abbrev recvCell (c : Dev nD) (i : Fin 7) : GSem nD τ sig := ((c : Thread nD τ), .dma (recvSem i))

/-- The slot memrefs of the two buffers of eight slots. -/
abbrev sSlot (k : Fin 8) : Memref sig .tc .vmem S64x1024 .bf16 := ((sM : Memref sig .tc .vmem S8x64x1024 .bf16).slice (slotRect k) (fun _ => rfl)).squeeze S64x1024 squeezes_S1x64x1024_S64x1024
abbrev rSlot (k : Fin 8) : Memref sig .tc .vmem S64x1024 .bf16 := ((rM : Memref sig .tc .vmem S8x64x1024 .bf16).slice (slotRect k) (fun _ => rfl)).squeeze S64x1024 squeezes_S1x64x1024_S64x1024

abbrev N : ℕ := (rSlot 1 : Memref sig .tc .vmem S64x1024 .bf16).view.dmaCredit
/-- The credit of a slot is positive. -/
theorem N_pos : 0 < N := View.dmaCredit_pos _ (by decide)

/-! ## The slots of a buffer -/

/-- The elements of slot `k`. -/
def slotSet (k : Fin 8) : Finset (S8x64x1024.Idx) := (slotRect k).set

/-- An element lies in slot `k` when its first coordinate is `k`. -/
theorem mem_slotSet (k : Fin 8) (i : S8x64x1024.Idx) : i ∈ slotSet k ↔ (i 0).val = k.val := by
  unfold slotSet
  rw [Rect.mem_set_unit]
  constructor
  · intro h
    have := h 0
    have h1 : (![k.val, 0, 0] : Fin 3 → ℕ) 0 = k.val := rfl
    have h2 : S1x64x1024.size 0 = 1 := rfl
    rw [h1, h2] at this
    omega
  · intro h a
    have h0 := (i 1).isLt
    have h1 := (i 2).isLt
    fin_cases a
    · show k.val ≤ (i 0).val ∧ (i 0).val < k.val + 1
      omega
    · show 0 ≤ (i 1).val ∧ (i 1).val < 0 + 64
      exact ⟨Nat.zero_le _, by simpa using h0⟩
    · show 0 ≤ (i 2).val ∧ (i 2).val < 0 + 1024
      exact ⟨Nat.zero_le _, by simpa using h1⟩

/-- Different slots have no element in common. -/
theorem slots_disjoint (b b' : Fin 8) (h : b ≠ b') : Disjoint (slotSet b) (slotSet b') :=
  Finset.disjoint_left.mpr fun i hi hi' => h (Fin.ext (((mem_slotSet b i).mp hi).symm.trans ((mem_slotSet b' i).mp hi')))

/-- Every element lies in a slot. -/
theorem slots_cover : Finset.univ.biUnion slotSet = Finset.univ := by
  ext i
  simp only [Finset.mem_biUnion, Finset.mem_univ, true_and, iff_true]
  exact ⟨i 0, (mem_slotSet _ i).mpr rfl⟩

/-- A slot of the send buffer is that slot's elements. -/
theorem sSlot_set (k : Fin 8) : (sSlot k : Memref sig .tc .vmem S64x1024 .bf16).view.set = slotSet k :=
  (View.set_reshape _ _).trans (View.set_slice_whole _ _)
/-- A slot of the receive buffer is that slot's elements. -/
theorem rSlot_set (k : Fin 8) : (rSlot k : Memref sig .tc .vmem S64x1024 .bf16).view.set = slotSet k :=
  (View.set_reshape _ _).trans (View.set_slice_whole _ _)

/-- A slot of a device's send buffer, and of its receive buffer, held at contents `f`. -/
def sPts (c : Dev nD) (k : Fin 8) (f : Buf (Elt F) ((c : Thread nD τ).loc cc0_scratch1)) : sProp 𝕄 :=
  ((c : Thread nD τ).loc cc0_scratch1) ↦[slotSet k]{fullShare} f
def rPts (c : Dev nD) (k : Fin 8) (f : Buf (Elt F) ((c : Thread nD τ).loc cc0_scratch2)) : sProp 𝕄 :=
  ((c : Thread nD τ).loc cc0_scratch2) ↦[slotSet k]{fullShare} f

omit [FloatOps F] in
instance sPts_storable (c : Dev nD) (k) (f) : BI.Storable (upEmb : UEmb _ 𝕄) (sPts (F := F) c k f) := by unfold sPts; infer_instance
omit [FloatOps F] in
instance rPts_storable (c : Dev nD) (k) (f) : BI.Storable (upEmb : UEmb _ 𝕄) (rPts (F := F) c k f) := by unfold rPts; infer_instance

omit [FloatOps F] in
/-- Holding the send buffer is holding its eight slots. -/
theorem sPts_all (c : Dev nD) (f : Buf (Elt F) ((c : Thread nD τ).loc cc0_scratch1)) :
    ((((c : Thread nD τ).loc cc0_scratch1) ↦{fullShare} f) : sProp 𝕄) = bigSep Finset.univ fun k => sPts c k f :=
  Ring.pointsTo_blocks (ℓ := (c : Thread nD τ).loc cc0_scratch1) slotSet slots_disjoint slots_cover f
omit [FloatOps F] in
/-- Holding the receive buffer is holding its eight slots. -/
theorem rPts_all (c : Dev nD) (f : Buf (Elt F) ((c : Thread nD τ).loc cc0_scratch2)) :
    ((((c : Thread nD τ).loc cc0_scratch2) ↦{fullShare} f) : sProp 𝕄) = bigSep Finset.univ fun k => rPts c k f :=
  Ring.pointsTo_blocks (ℓ := (c : Thread nD τ).loc cc0_scratch2) slotSet slots_disjoint slots_cover f

omit [FloatOps F] in
/-- A slot landed: the receive buffer agrees with the sender's on it. -/
theorem landed_on (k : Fin 8) (fd : (cc0_scratch2 : Ref sig .tc).ty.Contents (Elt F)) (fs : (cc0_scratch1 : Ref sig .tc).ty.Contents (Elt F))
    (i : S8x64x1024.Idx) (hi : i ∈ slotSet k) :
    (rSlot k : Memref sig .tc .vmem S64x1024 .bf16).view.write (Elt F) fd ((sSlot k : Memref sig .tc .vmem S64x1024 .bf16).view.read (Elt F) fs) Finset.univ i = fs i := by
  rw [← rSlot_set k] at hi
  obtain ⟨j, -, rfl⟩ := Finset.mem_map.mp hi
  exact (View.write_emb_of_mem _ _ (Finset.mem_univ j)).trans ((cast_eq _ _).trans ((View.read_apply _ _).trans (cast_eq _ _)))

/-! ## The schedule -/

/-- What the signal of the device `i + 1` places after `c` hands `c`: slot `i + 1` of that device's receive buffer. -/
def barPay (c : Dev nD) (i : Fin 7) : sProp 𝕄 := iprop(∃ f, rPts (peer c i) i.succ f)
/-- What a landing hands `c`: the slot, holding the sender's rows. -/
def recvPay (c : Dev nD) (i : Fin 7) : sProp 𝕄 := rPts c i.succ (recvAt m c)
/-- What a finished send hands `c`: its own slot back. -/
def sendPay (c : Dev nD) (i : Fin 7) : sProp 𝕄 := sPts c i.succ (sendAt m c)

/-- A semaphore's place: the barrier, the sends, the receives, the others. -/
def sendIx (s : SemLoc sig) : Option (Fin 7) := match s with
  | .reg _ => none
  | .dma q => if h : 4 ≤ q.val ∧ q.val < 11 then some ⟨q.val - 4, by omega⟩ else none
def recvIx (s : SemLoc sig) : Option (Fin 7) := match s with
  | .reg _ => none
  | .dma q => if h : 11 ≤ q.val ∧ q.val < 18 then some ⟨q.val - 11, by omega⟩ else none

/-- A send semaphore knows its number. -/
theorem sendIx_send (i : Fin 7) : sendIx (.dma (sendSem i)) = some i := by revert i; decide
/-- A receive semaphore is not a send semaphore. -/
theorem sendIx_recv (i : Fin 7) : sendIx (.dma (recvSem i)) = none := by revert i; decide
/-- A receive semaphore knows its number. -/
theorem recvIx_recv (i : Fin 7) : recvIx (.dma (recvSem i)) = some i := by revert i; decide
/-- A send semaphore is not a receive semaphore. -/
theorem recvIx_send (i : Fin 7) : recvIx (.dma (sendSem i)) = none := by revert i; decide

/-- The schedule: in round 0 a barrier has seven duties of one unit, a send or receive cell one duty of a slot's credit. -/
def theRd : Rounds.Schedule (GSem nD τ sig) (Fin 7) 𝕄 where
  duties g r := if r = 0 ∧ g.1.2 = .tc then
      (if g.2 = .reg barS then Finset.univ else if (sendIx g.2).isSome ∨ (recvIx g.2).isSome then {0} else ∅) else ∅
  unitless _ := False
  amount g _ _ := if g.2 = .reg barS then 1 else N
  payload g _ d :=
    if g.2 = .reg barS then barPay g.1.1 d
    else match recvIx g.2, sendIx g.2 with
      | some i, _ => recvPay m g.1.1 i
      | none, some i => sendPay m g.1.1 i
      | none, none => iprop(emp)
  amount_pos g _ _ _ := by
    by_cases h : g.2 = .reg barS
    · rw [if_pos h]; exact Nat.one_pos
    · rw [if_neg h]; exact N_pos

instance theRd_payload_storable (g : GSem nD τ sig) (r : ℕ) (d : Fin 7) :
    BI.Storable (upEmb : UEmb _ 𝕄) ((theRd (F := F) m).payload g r d) := by
  show BI.Storable upEmb (if g.2 = .reg barS then barPay g.1.1 d
    else match recvIx g.2, sendIx g.2 with
      | some i, _ => recvPay m g.1.1 i
      | none, some i => sendPay m g.1.1 i
      | none, none => iprop(emp))
  unfold barPay recvPay sendPay
  (repeat' split) <;> infer_instance

section Sched
variable (c : Dev nD) (i : Fin 7)

/-- A send semaphore is not the barrier. -/
theorem send_ne_bar : (SemLoc.dma (sendSem i) : SemLoc sig) ≠ .reg barS := fun h => by cases h
/-- A receive semaphore is not the barrier. -/
theorem recv_ne_bar : (SemLoc.dma (recvSem i) : SemLoc sig) ≠ .reg barS := fun h => by cases h

/-- The barrier has seven duties, one for each peer. -/
theorem duties_bar : (theRd (F := F) m).duties (barCell c) 0 = Finset.univ := by
  dsimp only [theRd]; rw [if_pos ⟨rfl, rfl⟩, if_pos rfl]
/-- A send cell has one duty. -/
theorem duties_send : (theRd (F := F) m).duties (sendCell c i) 0 = {0} := by
  dsimp only [theRd]; rw [if_pos ⟨rfl, rfl⟩, if_neg (send_ne_bar i), if_pos (Or.inl (by rw [sendIx_send]; rfl))]
/-- A receive cell has one duty. -/
theorem duties_recv : (theRd (F := F) m).duties (recvCell c i) 0 = {0} := by
  dsimp only [theRd]; rw [if_pos ⟨rfl, rfl⟩, if_neg (recv_ne_bar i), if_pos (Or.inr (by rw [recvIx_recv]; rfl))]
/-- There is only one round. -/
theorem duties_later (g : GSem nD τ sig) : ∀ r, 1 ≤ r → (theRd (F := F) m).duties g r = ∅ :=
  fun r hr => by dsimp only [theRd]; rw [if_neg fun h => by omega]

/-- A peer signals the barrier once. -/
theorem amount_bar (d : Fin 7) : (theRd (F := F) m).amount (barCell c) 0 d = 1 := by dsimp only [theRd]; exact if_pos rfl
/-- A send cell is paid one slot's credit. -/
theorem amount_send (d : Fin 7) : (theRd (F := F) m).amount (sendCell c i) 0 d = N := by dsimp only [theRd]; exact if_neg (send_ne_bar i)
/-- A receive cell is paid one slot's credit. -/
theorem amount_recv (d : Fin 7) : (theRd (F := F) m).amount (recvCell c i) 0 d = N := by dsimp only [theRd]; exact if_neg (recv_ne_bar i)

/-- The barrier expects seven units. -/
theorem expect_bar : (theRd (F := F) m).expect (barCell c) 0 = 7 := by
  unfold Schedule.expect Schedule.amountOf
  rw [duties_bar, Finset.sum_congr rfl fun d _ => amount_bar m c d, Finset.sum_const, Finset.card_univ, Fintype.card_fin, smul_eq_mul]
/-- A send cell expects one slot's credit. -/
theorem expect_send : (theRd (F := F) m).expect (sendCell c i) 0 = N := by
  unfold Schedule.expect Schedule.amountOf; rw [duties_send, Finset.sum_singleton, amount_send]
/-- A receive cell expects one slot's credit. -/
theorem expect_recv : (theRd (F := F) m).expect (recvCell c i) 0 = N := by
  unfold Schedule.expect Schedule.amountOf; rw [duties_recv, Finset.sum_singleton, amount_recv]

/-- With a unit of the barrier comes the slot that the peer lends. -/
theorem payload_bar (d : Fin 7) : (theRd (F := F) m).payload (barCell c) 0 d = barPay c d := by dsimp only [theRd]; rw [if_pos rfl]
/-- With the credit of a send cell the source slot comes back. -/
theorem payload_send (d : Fin 7) : (theRd (F := F) m).payload (sendCell c i) 0 d = sendPay m c i := by
  dsimp only [theRd]; rw [if_neg (send_ne_bar i), recvIx_send, sendIx_send]
/-- With the credit of a receive cell comes the slot with what landed. -/
theorem payload_recv (d : Fin 7) : (theRd (F := F) m).payload (recvCell c i) 0 d = recvPay m c i := by
  dsimp only [theRd]; rw [if_neg (recv_ne_bar i), recvIx_recv]

/-- All that comes with the barrier: seven slots. -/
theorem rest_bar : bigSep ((theRd (F := F) m).duties (barCell c) 0 \ ∅) (fun d => (theRd (F := F) m).payload (barCell c) 0 d)
    = bigSep Finset.univ fun d => barPay c d := by
  rw [Finset.sdiff_empty, duties_bar]; exact bigSep_congr fun d _ => payload_bar m c d
/-- All that comes with a send cell. -/
theorem rest_send : bigSep ((theRd (F := F) m).duties (sendCell c i) 0 \ ∅) (fun d => (theRd (F := F) m).payload (sendCell c i) 0 d) = sendPay m c i := by
  rw [Finset.sdiff_empty, duties_send, bigSep_singleton, payload_send]
/-- All that comes with a receive cell. -/
theorem rest_recv : bigSep ((theRd (F := F) m).duties (recvCell c i) 0 \ ∅) (fun d => (theRd (F := F) m).payload (recvCell c i) 0 d) = recvPay m c i := by
  rw [Finset.sdiff_empty, duties_recv, bigSep_singleton, payload_recv]

end Sched

/-! ## What is owed -/

/-- The terms from the `k`-th on, of a sum of seven. -/
def tail {M : Type} [AddCommMonoid M] (f : Fin 7 → M) (k : ℕ) : M := ∑ j ∈ Finset.univ.filter (fun j : Fin 7 => k ≤ j.val), f j

/-- All terms are the whole sum. -/
theorem tail_zero {M : Type} [AddCommMonoid M] (f : Fin 7 → M) : tail f 0 = ∑ j, f j := by
  unfold tail; rw [Finset.filter_true_of_mem fun _ _ => Nat.zero_le _]
/-- After the last term nothing is left. -/
theorem tail_seven {M : Type} [AddCommMonoid M] (f : Fin 7 → M) : tail f 7 = 0 := by
  unfold tail; rw [Finset.filter_false_of_mem fun j _ => by omega, Finset.sum_empty]
/-- Taking one term off. -/
theorem tail_step {M : Type} [AddCommMonoid M] (f : Fin 7 → M) (k : Fin 7) : tail f k.val = tail f (k.val + 1) + f k := by
  unfold tail
  rw [show (Finset.univ.filter fun j : Fin 7 => k.val ≤ j.val) = insert k (Finset.univ.filter fun j : Fin 7 => k.val + 1 ≤ j.val) from by
    revert k; decide, Finset.sum_insert (by simp), add_comm]

abbrev barTally (c : Dev nD) (j : Fin 7) : CellTallies nD τ sig Unit := tallyAt (barCell (peer c j)) () 1
abbrev recvTally (c : Dev nD) (j : Fin 7) : CellTallies nD τ sig Unit := tallyAt (recvCell (peer c j) j) () N

/-- What device `c` owes at launch: a slot's credit to each receive cell it fills, a unit to each peer's barrier. -/
def O₀ (c : Dev nD) : CellTallies nD τ sig Unit := tail (recvTally c) 0 + tail (barTally c) 0

def L (g : GSem nD τ sig) : Finset Unit := if g.1.2 = .tc then {()} else ∅
/-- barrier cells at 1, receive cells at 2, everything else at 0. -/
def lv (g : GSem nD τ sig) (_ : Unit) : ℕ := if g.2 = .reg barS then 1 else if (recvIx g.2).isSome then 2 else 0

/-- Cells of other threads have no level. -/
theorem L_of_ne (g : GSem nD τ sig) (h : g.1.2 ≠ .tc) : L g = ∅ := if_neg h
/-- Cells of the kernel's threads have one. -/
theorem L_tc (c : Dev nD) (sm : SemLoc sig) : L ((c : Thread nD τ), sm) = {()} := if_pos rfl
/-- The barrier is at level 1. -/
theorem lv_bar (c : Dev nD) : lv (barCell c) () = 1 := if_pos rfl
/-- The receive cells are at level 2. -/
theorem lv_recv (c : Dev nD) (i : Fin 7) : lv (recvCell c i) () = 2 := by
  unfold lv; rw [if_neg (recv_ne_bar i), recvIx_recv]; rfl

/-- A sum of tallies is taken cell by cell. -/
theorem sum_tally_apply (f : Fin 7 → CellTallies nD τ sig Unit) (g : GSem nD τ sig) (u : Unit) :
    (∑ j, f j) g u = ∑ j, f j g u := by
  rw [Finset.sum_apply, Finsupp.finset_sum_apply]

/-- A cell to which receive credit is owed is a peer's receive cell. -/
theorem recv_pos {c : Dev nD} {g : GSem nD τ sig} {u : Unit} (h : 0 < tail (recvTally c) 0 g u) : ∃ j, g = recvCell (peer c j) j := by
  rw [tail_zero, sum_tally_apply] at h
  obtain ⟨j, -, hj⟩ := Finset.exists_ne_zero_of_sum_ne_zero h.ne'
  refine ⟨j, ?_⟩
  rw [tallyAt_apply] at hj
  by_contra hn
  exact hj (if_neg fun h' => hn h'.1)
/-- A cell to which a signal is owed is a peer's barrier. -/
theorem bar_pos {c : Dev nD} {g : GSem nD τ sig} {u : Unit} (h : 0 < tail (barTally c) 0 g u) : ∃ j, g = barCell (peer c j) := by
  rw [tail_zero, sum_tally_apply] at h
  obtain ⟨j, -, hj⟩ := Finset.exists_ne_zero_of_sum_ne_zero h.ne'
  refine ⟨j, ?_⟩
  rw [tallyAt_apply] at hj
  by_contra hn
  exact hj (if_neg fun h' => hn h'.1)
/-- What a device owes, it owes to receive cells and barriers of its peers. -/
theorem O₀_pos {c : Dev nD} {g : GSem nD τ sig} {u : Unit} (h : 0 < O₀ c g u) :
    (∃ j, g = recvCell (peer c j) j) ∨ ∃ j, g = barCell (peer c j) := by
  unfold O₀ at h
  rw [Pi.add_apply, Finsupp.add_apply] at h
  rcases Nat.eq_zero_or_pos (tail (recvTally c) 0 g u) with h0 | h0
  · rw [h0, Nat.zero_add] at h; exact Or.inr (bar_pos h)
  · exact Or.inl (recv_pos h0)

omit [FloatOps F] in
/-- A wait on a semaphore below the barrier is allowed, at the start and at the end. -/
theorem mayWait_stage (c : Dev nD) (q : DmaSem sig) (hq : recvIx (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; dsimp only [lv]; rw [if_neg (fun h => by cases h), hq]; rfl)
      (fun g u hg => by
        cases u
        rcases O₀_pos hg with ⟨j, rfl⟩ | ⟨j, rfl⟩
        · rw [lv_recv]; decide
        · rw [lv_bar]; decide)
  · rw [MayWait_zero]; iintro -; iempintro

omit [FloatOps F] in
/-- At its barrier wait a device owes receive credits only. -/
theorem mayWait_bar (c : Dev nD) :
    (levAts L lv : sProp 𝕄) ⊢ MayWait (c : Thread nD τ) (.reg barS) () (tail (recvTally c) 0) :=
  MayOwe.of_cut (L := L) (lev := lv) 1 (fun p hp => by rw [Finset.mem_singleton.mp hp, L_tc]; exact Finset.mem_singleton_self _)
    (fun g u hg => by obtain ⟨j, rfl⟩ := recv_pos hg; exact Finset.mem_singleton_self _)
    (fun p hp => by rw [Finset.mem_singleton.mp hp]; exact le_of_eq (lv_bar c))
    (fun g u hg => by cases u; obtain ⟨j, rfl⟩ := recv_pos hg; rw [lv_recv]; decide)

end Cert.KernelIdeal.Run

end
-- ==== Proof.Steps.lean ====
/-
The steps of the protocol, each stated once for the seven peers: a signal, the barrier's wait, a send, a receive's wait,
a send's wait, and one expert's rows of products.
-/
module

public import proofs.«01_k».proof.Proof.Protocol
public import proofs.«01_k».proof.Proof.Gen.KernelIdeal.Launch
public import Idealize.ShloMosaic.Lib.Pipeline.ValueKit.Geometry

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)
abbrev 𝒱₀ : Variants := Variants.none

/-! ## Seven things, one after the other -/

/-- The things from the `k`-th on, and the things before it. -/
def later (Φ : Fin 7 → sProp 𝕄) (k : ℕ) : sProp 𝕄 := bigSep (Finset.univ.filter fun j : Fin 7 => k ≤ j.val) Φ
def earlier (Φ : Fin 7 → sProp 𝕄) (k : ℕ) : sProp 𝕄 := bigSep (Finset.univ.filter fun j : Fin 7 => j.val < k) Φ

omit [FloatOps F] in
/-- From the first on: all. -/
theorem later_zero (Φ : Fin 7 → sProp 𝕄) : later Φ 0 = bigSep Finset.univ Φ := by
  unfold later; rw [Finset.filter_true_of_mem fun _ _ => Nat.zero_le _]
omit [FloatOps F] in
/-- Taking the `k`-th off those to come. -/
theorem later_step (Φ : Fin 7 → sProp 𝕄) (k : Fin 7) : later Φ k.val = iprop(Φ k ∗ later Φ (k.val + 1)) := by
  unfold later
  rw [show (Finset.univ.filter fun j : Fin 7 => k.val ≤ j.val) = insert k (Finset.univ.filter fun j : Fin 7 => k.val + 1 ≤ j.val) from by
    revert k; decide]
  exact bigSep_insert (by simp)
omit [FloatOps F] in
/-- Before the first: none. -/
theorem earlier_zero (Φ : Fin 7 → sProp 𝕄) : earlier Φ 0 = iprop(emp) := by
  unfold earlier; rw [Finset.filter_false_of_mem fun j _ => Nat.not_lt_zero _]; rfl
omit [FloatOps F] in
/-- Putting the `k`-th to those done. -/
theorem earlier_step (Φ : Fin 7 → sProp 𝕄) (k : Fin 7) : earlier Φ (k.val + 1) = iprop(Φ k ∗ earlier Φ k.val) := by
  unfold earlier
  rw [show (Finset.univ.filter fun j : Fin 7 => j.val < k.val + 1) = insert k (Finset.univ.filter fun j : Fin 7 => j.val < k.val) from by
    revert k; decide]
  exact bigSep_insert (by simp)
omit [FloatOps F] in
/-- Before the end: all. -/
theorem earlier_seven (Φ : Fin 7 → sProp 𝕄) : earlier Φ 7 = bigSep Finset.univ Φ := by
  unfold earlier; rw [Finset.filter_true_of_mem fun j _ => j.isLt]

omit [FloatOps F] in
/-- Eight things are the first and seven more. -/
theorem bigSep_eight (Φ : Fin 8 → sProp 𝕄) : bigSep Finset.univ Φ = iprop(Φ 0 ∗ bigSep Finset.univ fun i : Fin 7 => Φ i.succ) := by
  rw [Fin.univ_succ, Finset.cons_eq_insert, bigSep_insert (by simp [Fin.succ_ne_zero]), bigSep_map]
  rfl

/-! ## The cells' records -/

/-- A device's cells: the barrier, seven sends, seven receives. -/
abbrev CI : Type := Unit ⊕ (Fin 7 ⊕ Fin 7)
def csem : CI → SemLoc sig
  | .inl _ => .reg barS
  | .inr (.inl i) => .dma (sendSem i)
  | .inr (.inr i) => .dma (recvSem i)
abbrev kcell (ci : Dev nD × CI) : GSem nD τ sig := ((ci.1 : Thread nD τ), csem ci.2)

abbrev kBar : CI := .inl ()
abbrev kSend (i : Fin 7) : CI := .inr (.inl i)
abbrev kRecv (i : Fin 7) : CI := .inr (.inr i)

def rec1 (K : Dev nD × CI → ℕ) (ci : Dev nD × CI) : sProp 𝕄 :=
  iprop(cellInv ER (theRd m) (K ci) (kcell ci) ∗ reached ER (kcell ci) 0)
instance rec1_persistent (K : Dev nD × CI → ℕ) (ci : Dev nD × CI) : BI.Persistent (rec1 m K ci) := by unfold rec1; infer_instance

/-- Every cell of every device has its invariant, at round 0 at least. -/
def recs (K : Dev nD × CI → ℕ) : sProp 𝕄 := bigSep Finset.univ (rec1 m K)
instance recs_persistent (K : Dev nD × CI → ℕ) : BI.Persistent (recs m K) := by unfold recs; infer_instance

/-- The records hold the invariant of every cell. -/
theorem recs_at (K : Dev nD × CI → ℕ) (ci : Dev nD × CI) :
    recs m K ⊢ iprop(cellInv ER (theRd m) (K ci) (kcell ci) ∗ reached ER (kcell ci) 0) :=
  bigSep_elim (Finset.mem_univ ci)

/-! ## What the steps hand around -/

/-- What a device owes, whatever it has waited for. -/
def owing (c : Dev nD) (O : CellTallies nD τ sig Unit) : sProp 𝕄 := iprop(∃ W, owes (c : Thread nD τ) O W)

def tokBar (c : Dev nD) (j : Fin 7) : sProp 𝕄 := dutyTok ER (barCell (peer c j)) 0 j.rev
def tokRecv (c : Dev nD) (j : Fin 7) : sProp 𝕄 := dutyTok ER (recvCell (peer c j) j) 0 (0 : Fin 7)
def tokSend (c : Dev nD) (j : Fin 7) : sProp 𝕄 := dutyTok ER (sendCell c j) 0 (0 : Fin 7)
/-- The receive slot that goes with the `j`-th signal. -/
def lend (c : Dev nD) (j : Fin 7) : sProp 𝕄 := iprop(∃ f, rPts (F := F) c j.rev.succ f)
def credSend (c : Dev nD) (j : Fin 7) : sProp 𝕄 := cred (tallyAt (sendCell c j) () N)
def credRecv (c : Dev nD) (j : Fin 7) : sProp 𝕄 := cred (tallyAt (recvCell c j) () N)
def posSend (c : Dev nD) (j : Fin 7) : sProp 𝕄 := atPos ER (sendCell c j) 0 ∅ 0
def posRecv (c : Dev nD) (j : Fin 7) : sProp 𝕄 := atPos ER (recvCell c j) 0 ∅ 0
def doneSend (c : Dev nD) (j : Fin 7) : sProp 𝕄 := iprop(semVal (sendCell c j) 0 ∗ sendPay m c j)
def doneRecv (c : Dev nD) (j : Fin 7) : sProp 𝕄 := iprop(semVal (recvCell c j) 0 ∗ recvPay m c j)

/-! ## The states between the steps -/

/-- After `n` signals. -/
def sigSt (K : Dev nD × CI → ℕ) (c : Dev nD) (n : ℕ) : sProp 𝕄 :=
  iprop(recs m K ∗ owing c (tail (recvTally c) 0 + tail (barTally c) n) ∗ later (tokBar c) n ∗ later (lend c) n)
/-- After `n` sends. -/
def sendSt (K : Dev nD × CI → ℕ) (c : Dev nD) (n : ℕ) : sProp 𝕄 :=
  iprop(recs m K ∗ owing c (tail (recvTally c) n) ∗ later (tokRecv c) n ∗ later (tokSend c) n
    ∗ later (sendPay m c) n ∗ later (barPay c) n ∗ earlier (credSend c) n)
/-- After `n` waits for a slot received. -/
def recvSt (K : Dev nD × CI → ℕ) (c : Dev nD) (n : ℕ) : sProp 𝕄 :=
  iprop(recs m K ∗ owing c 0 ∗ later (posRecv c) n ∗ later (credRecv c) n ∗ earlier (doneRecv m c) n)
/-- After `n` waits for a slot sent. -/
def sentSt (K : Dev nD × CI → ℕ) (c : Dev nD) (n : ℕ) : sProp 𝕄 :=
  iprop(recs m K ∗ owing c 0 ∗ later (posSend c) n ∗ later (credSend c) n ∗ earlier (doneSend m c) n)

section Steps

variable (K : Dev nD × CI → ℕ) (c : Dev nD)

/-- The `j`-th signal: it pays one barrier duty and lends one receive slot. -/
theorem step_signal (j : Fin 7) (n : Dev nD) (hn : n = peer c j)
    {k : PUnit → Prog (TpuEff nD τ sig (Elt F) Λ₀ .tc) PUnit} {Q : PUnit → sProp 𝕄} :
    sigSt m K c j.val
      ⊢ iprop((sigSt m K c (j.val + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((n, Proc.tc) : Thread nD τ) barS (1#32 : BitVec 32).toInt) k) Q) := by
  subst hn
  unfold sigSt owing
  rw [later_step (tokBar c) j, later_step (lend c) j]
  iintro ⟨#HR, ⟨%W, HO⟩, ⟨Ht, Hts⟩, ⟨Hl, Hls⟩⟩ Hk
  ihave ⟨#Hi, #Hr⟩ := (recs_at m K (peer c j, kBar)) $$ HR
  iapply (Rounds.wp_signal 𝒱₀ ER (theRd m) (c : Thread nD τ) none (dst := (peer c j : Thread nD τ)) (κ := K (peer c j, kBar))
      (d := j.rev) (by rw [duties_bar]; exact Finset.mem_univ _) ((amount_bar m (peer c j) j.rev).trans (by decide)) ()
      (O₀ := tail (recvTally c) 0 + tail (barTally c) j.val)
      (tail (recvTally c) 0 + tail (barTally c) (j.val + 1)) (by rw [tail_step, add_assoc]; rfl))
    $$ [HO Ht Hl]
  · isplitr; · iexact Hi
    isplitl [HO]; · iexact HO
    isplitl [Ht]; · unfold tokBar; iexact Ht
    isplitl [Hl]
    · rw [payload_bar]; unfold barPay lend; rw [peer_peer]; iexact Hl
    iexact Hr
  iintro HO
  iapply Hk
  isplitr; · iexact HR
  isplitl [HO]; · iexists W; iexact HO
  isplitl [Hts] <;> iassumption

/-- The barrier's wait: seven slots of the peers' receive buffers come with it. -/
theorem step_barrier {k : PUnit → Prog (TpuEff nD τ sig (Elt F) Λ₀ .tc) PUnit} {Q : PUnit → sProp 𝕄} :
    iprop(recs m K ∗ levAts L lv ∗ owing c (tail (recvTally c) 0) ∗ cred (tallyAt (barCell c) () 7) ∗ atPos ER (barCell c) 0 ∅ 0)
      ⊢ iprop(((owing c (tail (recvTally c) 0) ∗ semVal (barCell c) 0 ∗ later (barPay c) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (7#32 : BitVec 32).toInt) k) Q) := by
  unfold owing
  iintro ⟨#HR, #Hlev, ⟨%W, HO⟩, Hc, Hat⟩ Hk
  ihave ⟨#Hi, -⟩ := (recs_at m K (c, kBar)) $$ HR
  iapply (Rounds.wp_wait_rest_token 𝒱₀ ER (theRd m) (c : Thread nD τ) none (κ := K (c, kBar))
      (wpE_semWait_eq 𝒱₀ (c : Thread nD τ) none Set.univ) (Set.mem_univ _) () (O := tail (recvTally c) 0) (W := W) (R := 0) (m := 0) (T := ∅)
      (by rw [expect_bar]; decide)) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (theRd m) (Set.mem_univ (K (c, kBar))) (fun h => h) (R := 0 + 1) (duties_later m (barCell c))) $$ [Hat] with Hz
  · isplitr; · iexact Hi
    iexact Hat
  iapply Hk
  isplitl [HO]; · iexists _; iexact HO
  isplitl [Hz]; · iexact Hz
  rw [later_zero]; iexact Hp

/-- Every slot of the receive buffer has the same credit. -/
theorem credit_r (k : Fin 8) : (rSlot k : Memref sig .tc .vmem S64x1024 .bf16).view.dmaCredit = N := rfl
/-- Every slot of the send buffer has the same credit. -/
theorem credit_s (k : Fin 8) : (sSlot k : Memref sig .tc .vmem S64x1024 .bf16).view.dmaCredit = N := rfl

omit [FloatOps F] in
/-- Holding a slot of the send buffer is holding its view. -/
theorem sPts_view (d : Dev nD) (k : Fin 8) (f : Buf (Elt F) ((d : Thread nD τ).loc cc0_scratch1)) :
    (sPts d k f : sProp 𝕄) = (((sSlot k : Memref sig .tc .vmem S64x1024 .bf16).view.loc (d : Thread nD τ)) ↦[(sSlot k : Memref sig .tc .vmem S64x1024 .bf16).view.set]{fullShare} f) := by
  rw [sSlot_set]; rfl
omit [FloatOps F] in
/-- Holding a slot of the receive buffer is holding its view. -/
theorem rPts_view (d : Dev nD) (k : Fin 8) (f : Buf (Elt F) ((d : Thread nD τ).loc cc0_scratch2)) :
    (rPts d k f : sProp 𝕄) = (((rSlot k : Memref sig .tc .vmem S64x1024 .bf16).view.loc (d : Thread nD τ)) ↦[(rSlot k : Memref sig .tc .vmem S64x1024 .bf16).view.set]{fullShare} f) := by
  rw [rSlot_set]; rfl

/-- What lands in slot `j + 1` of the peer's receive buffer is what that peer is to receive there. -/
theorem landed_eq (j : Fin 7) (fd : Buf (Elt F) ((peer c j : Thread nD τ).loc cc0_scratch2)) :
    (((rSlot j.succ : Memref sig .tc .vmem S64x1024 .bf16).view.loc (peer c j : Thread nD τ)) ↦[(rSlot j.succ : Memref sig .tc .vmem S64x1024 .bf16).view.set]{fullShare}
        ((rSlot j.succ : Memref sig .tc .vmem S64x1024 .bf16).view.write (Elt F) fd ((sSlot j.succ : Memref sig .tc .vmem S64x1024 .bf16).view.read (Elt F) (sendAt m c)) Finset.univ) : sProp 𝕄)
      ⊢ recvPay m (peer c j) j := by
  unfold recvPay
  rw [rPts_view]
  refine Entails.of_eq (pointsTo_congr fun i hi => ?_)
  rw [rSlot_set] at hi
  refine (landed_on j.succ fd (sendAt m c) i hi).trans ?_
  have h0 : (i 0).val = j.val + 1 := (mem_slotSet _ _).mp hi
  unfold recvAt
  rw [dif_neg (by omega)]
  have : (⟨(i 0).val - 1, by have : (i 0).val < 8 := (i 0).isLt; omega⟩ : Fin 7) = j := Fin.ext (by simp only [h0]; omega)
  rw [this, peer_peer]

set_option maxHeartbeats 1600000 in
/-- The `j`-th send: slot `j + 1` of the send buffer goes to slot `j + 1` of the peer's receive buffer. -/
theorem step_send (j : Fin 7) (n : Dev nD) (hn : n = peer c j)
    {hsc : (rSlot j.succ : Memref sig (Dev.tc n : Thread nD τ).2.kind .vmem S64x1024 .bf16).view.ref.isScScratch = false}
    {hsrc : (sSlot j.succ : Memref sig .tc .vmem S64x1024 .bf16).view.WordExact} {hdst : (rSlot j.succ : Memref sig .tc .vmem S64x1024 .bf16).view.WordExact}
    {hsem : DmaTarget.Typed .vmem (.dma (recvSem j)) (.remote (Dev.tc n : Thread nD τ) (rSlot j.succ : Memref sig .tc .vmem S64x1024 .bf16) (.dma (sendSem j)) hsc)}
    {k : PUnit → Prog (TpuEff nD τ sig (Elt F) Λ₀ .tc) PUnit} {Q : PUnit → sProp 𝕄} :
    sendSt m K c j.val
      ⊢ iprop((sendSt m K c (j.val + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot j.succ) (.remote (Dev.tc n : Thread nD τ) (rSlot j.succ) (.dma (sendSem j)) hsc) (.dma (recvSem j)) hsrc hdst hsem) k) Q) := by
  subst hn
  unfold sendSt owing
  rw [later_step (tokRecv c) j, later_step (tokSend c) j, later_step (sendPay m c) j, later_step (barPay c) j, earlier_step (credSend c) j]
  iintro ⟨#HR, ⟨%W, HO⟩, ⟨Htr, Htrs⟩, ⟨Hts, Htss⟩, ⟨Hs, Hss⟩, ⟨Hb, Hbs⟩, Hcs⟩ Hk
  ihave ⟨#Hi1, #Hr1⟩ := (recs_at m K (c, kSend j)) $$ HR
  ihave ⟨#Hi2, #Hr2⟩ := (recs_at m K (peer c j, kRecv j)) $$ HR
  unfold barPay
  icases Hb with ⟨%fn, Hb⟩
  iapply (Rounds.wp_send_pointsTo 𝒱₀ ER (theRd m) (c : Thread nD τ) none (c' := (peer c j : Thread nD τ)) (src := sSlot j.succ) (dst := rSlot j.succ) (sS := .dma (sendSem j)) (sem := .dma (recvSem j))
    (κ₁ := K (c, kSend j)) (κ₂ := K (peer c j, kRecv j))
    (fs := sendAt m c) (r₁ := 0) (r₂ := 0) (d₁ := (0 : Fin 7)) (d₂ := (0 : Fin 7)) (fd := fn)
    (by rw [duties_send]; exact Finset.mem_singleton_self _) (by rw [duties_recv]; exact Finset.mem_singleton_self _)
    () () N (credit_r j.succ) (amount_send m c j 0) (amount_recv m (peer c j) j 0) (O₀ := tail (recvTally c) j.val) (tail (recvTally c) (j.val + 1)) (tail_step _ _) (W := W)
    (by rw [payload_send]; unfold sendPay; rw [sPts_view])
    (by rw [payload_recv]; exact landed_eq m c j fn)) $$ [HO Htr Hts Hs Hb]
  · isplitr; · iexact Hi1
    isplitr; · iexact Hi2
    isplitl [Hs]; · unfold sendPay; iapply (Entails.of_eq (sPts_view c j.succ (sendAt m c))); iexact Hs
    isplitl [Hb]; · iapply (Entails.of_eq (rPts_view (peer c j) j.succ fn)); iexact Hb
    isplitl [HO]; · iexact HO
    isplitl [Hts]; · unfold tokSend; iexact Hts
    isplitr; · iexact Hr1
    isplitl [Htr]; · unfold tokRecv; iexact Htr
    iexact Hr2
  iintro ⟨Hc, HO⟩
  iapply Hk
  isplitr; · iexact HR
  isplitl [HO]; · iexists W; iexact HO
  isplitl [Htrs]; · iexact Htrs
  isplitl [Htss]; · iexact Htss
  isplitl [Hss]; · iexact Hss
  isplitl [Hbs]; · iexact Hbs
  isplitl [Hc]; · unfold credSend; iexact Hc
  iexact Hcs

/-- The wait for the `j`-th slot received. -/
theorem step_recv (j : Fin 7)
    {hsrc : (sSlot j.succ : Memref sig .tc .vmem S64x1024 .bf16).view.WordExact} {hdst : (rSlot j.succ : Memref sig .tc .vmem S64x1024 .bf16).view.WordExact}
    {k : PUnit → Prog (TpuEff nD τ sig (Elt F) Λ₀ .tc) PUnit} {Q : PUnit → sProp 𝕄} :
    recvSt m K c j.val
      ⊢ iprop((recvSt m K c (j.val + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvSem j) (sSlot j.succ) (rSlot j.succ) hsrc hdst) k) Q) := by
  unfold recvSt owing
  rw [later_step (posRecv c) j, later_step (credRecv c) j, earlier_step (doneRecv m c) j]
  iintro ⟨#HR, ⟨%W, HO⟩, ⟨Hp, Hps⟩, ⟨Hc, Hcs⟩, Hd⟩ Hk
  ihave ⟨#Hi, -⟩ := (recs_at m K (c, kRecv j)) $$ HR
  iapply (Rounds.wp_wait_rest_token 𝒱₀ ER (theRd m) (c : Thread nD τ) none (κ := K (c, kRecv j))
      (wpE_waitDma2_eq 𝒱₀ (c : Thread nD τ) none Set.univ) (Set.mem_univ _) () (O := 0) (W := W) (R := 0) (m := 0) (T := ∅)
      (by rw [Nat.zero_add]; exact (expect_recv m c j).symm)) $$ [Hc HO Hp]
  · isplitr; · iexact Hi
    isplitl [Hc]; · unfold credRecv; iexact Hc
    isplitl [HO]; · iexact HO
    isplitr; · rw [MayWait_zero]; iempintro
    unfold posRecv; iexact Hp
  iintro ⟨HO, Hat, -, Hpay⟩
  ihave Hp := (Entails.of_eq (rest_recv m c j)) $$ Hpay
  imod (Rounds.cell_close ER (theRd m) (Set.mem_univ (K (c, kRecv j))) (fun h => h) (R := 0 + 1) (duties_later m (recvCell c j))) $$ [Hat] with Hz
  · isplitr; · iexact Hi
    iexact Hat
  iapply Hk
  isplitr; · iexact HR
  isplitl [HO]; · iexists _; iexact HO
  isplitl [Hps]; · iexact Hps
  isplitl [Hcs]; · iexact Hcs
  isplitl [Hz Hp]
  · unfold doneRecv; isplitl [Hz] <;> iassumption
  iexact Hd

/-- The wait for the `j`-th slot sent. -/
theorem step_sent (j : Fin 7)
    {hsrc : (rSlot j.succ : Memref sig .tc .vmem S64x1024 .bf16).view.WordExact} {hdst : (sSlot j.succ : Memref sig .tc .vmem S64x1024 .bf16).view.WordExact}
    {k : PUnit → Prog (TpuEff nD τ sig (Elt F) Λ₀ .tc) PUnit} {Q : PUnit → sProp 𝕄} :
    sentSt m K c j.val
      ⊢ iprop((sentSt m K c (j.val + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendSem j) (rSlot j.succ) (sSlot j.succ) hsrc hdst) k) Q) := by
  unfold sentSt owing
  rw [later_step (posSend c) j, later_step (credSend c) j, earlier_step (doneSend m c) j]
  iintro ⟨#HR, ⟨%W, HO⟩, ⟨Hp, Hps⟩, ⟨Hc, Hcs⟩, Hd⟩ Hk
  ihave ⟨#Hi, -⟩ := (recs_at m K (c, kSend j)) $$ HR
  iapply (Rounds.wp_wait_rest_token 𝒱₀ ER (theRd m) (c : Thread nD τ) none (κ := K (c, kSend j))
      (wpE_waitDma2_eq 𝒱₀ (c : Thread nD τ) none Set.univ) (Set.mem_univ _) () (O := 0) (W := W) (R := 0) (m := 0) (T := ∅)
      (by rw [Nat.zero_add]; exact (expect_send m c j).symm)) $$ [Hc HO Hp]
  · isplitr; · iexact Hi
    isplitl [Hc]; · unfold credSend; iexact Hc
    isplitl [HO]; · iexact HO
    isplitr; · rw [MayWait_zero]; iempintro
    unfold posSend; iexact Hp
  iintro ⟨HO, Hat, -, Hpay⟩
  ihave Hp := (Entails.of_eq (rest_send m c j)) $$ Hpay
  imod (Rounds.cell_close ER (theRd m) (Set.mem_univ (K (c, kSend j))) (fun h => h) (R := 0 + 1) (duties_later m (sendCell c j))) $$ [Hat] with Hz
  · isplitr; · iexact Hi
    iexact Hat
  iapply Hk
  isplitr; · iexact HR
  isplitl [HO]; · iexists _; iexact HO
  isplitl [Hps]; · iexact Hps
  isplitl [Hcs]; · iexact Hcs
  isplitl [Hz Hp]
  · unfold doneSend; isplitl [Hz] <;> iassumption
  iexact Hd

end Steps

/-! ## The packed products, one expert's rows at a time -/

/-- The packed products after `l` experts, over what was there before. -/
def chunkPart (C f : (cc0_scratch0 : Ref sig .tc).ty.Contents (Elt F)) (l : ℕ) : (cc0_scratch0 : Ref sig .tc).ty.Contents (Elt F) :=
  fun i : S256x1024.Idx => if (rowBlk i).val < l then C i else f i

omit [FloatOps F] in
/-- With no block stored the chunk is as it was. -/
theorem chunkPart_zero (C f : (cc0_scratch0 : Ref sig .tc).ty.Contents (Elt F)) : chunkPart C f 0 = f :=
  funext fun i => if_neg (Nat.not_lt_zero _)
omit [FloatOps F] in
/-- With eight blocks stored it is the whole chunk. -/
theorem chunkPart_eight (C f : (cc0_scratch0 : Ref sig .tc).ty.Contents (Elt F)) : chunkPart C f 8 = C :=
  funext fun i => if_pos (rowBlk (i : S256x1024.Idx)).isLt

/-- An entry lies in an expert's rows when its row's block is that expert's. -/
theorem mem_rows (l : Fin 8) (i : S256x1024.Idx) : i ∈ (rowsRect l).set ↔ rowBlk i = l := by
  rw [Rect.mem_set_unit]
  unfold rowBlk
  rw [Fin.ext_iff]
  have h0 : (i 0).val < 256 := (i 0).isLt
  have h1 : (i 1).val < 1024 := (i 1).isLt
  constructor
  · intro h
    have := h 0
    change 32 * l.val ≤ (i 0).val ∧ (i 0).val < 32 * l.val + 32 at this
    show (i 0).val / 32 = l.val
    omega
  · intro h a
    change (i 0).val / 32 = l.val at h
    fin_cases a
    · show 32 * l.val ≤ (i 0).val ∧ (i 0).val < 32 * l.val + 32
      omega
    · show 0 ≤ (i 1).val ∧ (i 1).val < 0 + 1024
      omega

omit [FloatOps F] in
/-- Writing expert `l`'s rows into a packed array that already has those before it. -/
theorem write_rows (C f : (cc0_scratch0 : Ref sig .tc).ty.Contents (Elt F)) (l : Fin 8) (w : S32x1024.Idx → Elt F .f32)
    (hC : ∀ i : S256x1024.Idx, rowBlk i = l → C i = w (rowIn i)) :
    ((cM : Memref sig .tc .vmem S256x1024 .f32).access (rowsRect l)).write (Elt F) (chunkPart C f l.val) w Finset.univ = chunkPart C f (l.val + 1) := by
  funext i
  have hset : ∀ j : S256x1024.Idx, j ∈ ((cM : Memref sig .tc .vmem S256x1024 .f32).access (rowsRect l)).set ↔ rowBlk j = l := fun j =>
    ValueKit.mem_set_slice_whole_iff cc0_scratch0 (rowsRect l) j (mem_rows l j)
  by_cases hi : rowBlk (i : S256x1024.Idx) = l
  · obtain ⟨j, -, rfl⟩ := Finset.mem_map.mp ((hset i).mpr hi)
    refine (View.write_emb_of_mem _ _ (Finset.mem_univ j)).trans ((cast_eq _ _).trans ?_)
    unfold chunkPart
    rw [if_pos (by rw [hi]; exact Nat.lt_succ_self _), hC _ hi]
    refine congrArg w (funext fun a => Fin.ext ?_)
    have hv := fun a => ValueKit.view_emb_slice_whole_unit_val cc0_scratch0 ![32 * l.val, 0] S32x1024.size (rows_inb l) j a
    have h0 := hv 0
    have h1 := hv 1
    have hj : (j 0).val < 32 := (j 0).isLt
    change _ = 32 * l.val + (j 0).val at h0
    change _ = 0 + (j 1).val at h1
    fin_cases a
    · show (j 0).val = _ % 32
      exact (by omega : ∀ n : ℕ, n = 32 * l.val + (j 0).val → (j 0).val = n % 32) _ h0
    · show (j 1).val = _
      exact (by omega : ∀ n : ℕ, n = 0 + (j 1).val → (j 1).val = n) _ h1
  · refine (View.write_of_not_mem _ _ _ (by rw [View.setOn_univ, hset]; exact hi)).trans ?_
    unfold chunkPart
    by_cases h : (rowBlk (i : S256x1024.Idx)).val < l.val
    · rw [if_pos h, if_pos (by omega)]
    · rw [if_neg h, if_neg (fun h' => hi (Fin.ext (by omega)))]

section Rows

variable (c : Dev nD)

/-- After `l` experts. -/
def rowsSt (f : (cc0_scratch0 : Ref sig .tc).ty.Contents (Elt F)) (l : ℕ) : sProp 𝕄 :=
  iprop((((c : Thread nD τ).loc cc0_stg2_0) ↦{fullShare} wAt m c) ∗ (((c : Thread nD τ).loc cc0_scratch0) ↦{fullShare} chunkPart (chunkV c (eAt m c) (xAt m c) (wAt m c)) f l))

/-- One expert: its matrix is loaded, the rows' old contents are loaded and dropped, the products are stored. -/
theorem step_rows (l : Fin 8) (f : (cc0_scratch0 : Ref sig .tc).ty.Contents (Elt F))
    (g : (S1x512x1024.Idx → Elt F .f32) → (S32x1024.Idx → Elt F .f32))
    (hC : ∀ i : S256x1024.Idx, rowBlk i = l → chunkV c (eAt m c) (xAt m c) (wAt m c) i = g (slab (wAt m c) l) (rowIn i))
    {h1 : (wM : Memref sig .tc .vmem S8x512x1024 .f32).view.LoadsAt (slabRect l).toLoadRect}
    {h2 : (cM : Memref sig .tc .vmem S256x1024 .f32).view.LoadsAt (rowsRect l).toLoadRect}
    {h3 : ((cM : Memref sig .tc .vmem S256x1024 .f32).access (rowsRect l)).Stores Finset.univ}
    {h4 : Finset.univ = Finset.univ ∨ ∀ a, (rowsRect l).stride a = 1}
    {k : PUnit → Prog (TpuEff nD τ sig (Elt F) Λ₀ .tc) PUnit} {Q : PUnit → sProp 𝕄} :
    rowsSt m c f l.val
      ⊢ iprop((rowsSt m c f (l.val + 1)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load wM (slabRect l).toLoadRect h1) fun s => .op (.load cM (rowsRect l).toLoadRect h2) fun _ =>
                .op (.store cM (rowsRect l) (g s) Finset.univ h3 h4) k) Q) := by
  unfold rowsSt
  iintro ⟨HW, HC⟩ Hk
  iapply (wp_load 𝒱₀ (c : Thread nD τ) none Set.univ (m := wM) (Finset.subset_univ _)) $$ HW; iintro HW
  iapply (wp_load 𝒱₀ (c : Thread nD τ) none Set.univ (m := cM) (Finset.subset_univ _)) $$ HC; iintro HC
  iapply (wp_store 𝒱₀ (c : Thread nD τ) none Set.univ (m := cM) (r := rowsRect l) (Mk := Finset.univ) (Finset.subset_univ _)) $$ HC; iintro HC
  ihave HC := (Entails.of_eq (congrArg (fun X => (((c : Thread nD τ).loc cc0_scratch0) ↦{fullShare} X : sProp 𝕄)) (write_rows _ f l (g ((wM : Memref sig .tc .vmem S8x512x1024 .f32).view.readAt (Elt F) (slabRect l).toLoadRect (wAt m c))) hC))) $$ HC
  iapply Hk
  isplitl [HW] <;> iassumption

end Rows

end Cert.KernelIdeal.Run

end
-- ==== Proof.Body.lean ====
/-
The body of the kernel on one device, run from what the launch gives it to its result.
-/
module

public import proofs.«01_k».proof.Proof.Steps

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

/-- The launch has one grid step. -/
theorem cfg0_N : cfg0.N = 1 := by decide
def t₀ : Fin cfg0.N := ⟨0, by rw [cfg0_N]; decide⟩
/-- That step is the only one. -/
theorem fin_N (t : Fin cfg0.N) : t = t₀ := by
  obtain ⟨t, ht⟩ := t; have := cfg0_N; exact Fin.ext (by simp only [t₀]; omega)

/-! ## What the body starts from and ends with -/

/-- The ghost state device `c` starts from: the cells' records, its positions, the tokens it pays with. -/
def ghost (K : Dev nD × CI → ℕ) (c : Dev nD) : sProp 𝕄 :=
  iprop(recs m K ∗ atPos ER (barCell c) 0 ∅ 0 ∗ later (posSend c) 0 ∗ later (posRecv c) 0
    ∗ later (tokBar c) 0 ∗ later (tokRecv c) 0 ∗ later (tokSend c) 0)

def start (c : Dev nD) : sProp 𝕄 :=
  iprop((∃ K, ghost m K c) ∗ cred (tallyAt (barCell c) () 7) ∗ later (credRecv c) 0 ∗ levAts L lv)

/-- A buffer held whole, at some contents. -/
abbrev anyAt (c : Dev nD) (b : Ref sig .tc) : sProp 𝕄 :=
  iprop(∃ f : Buf (Elt F) ((c : Thread nD τ).loc b), ((c : Thread nD τ).loc b) ↦{fullShare} f)
def scratch (c : Dev nD) : sProp 𝕄 :=
  iprop(anyAt c cc0_scratch0 ∗ anyAt c cc0_scratch1 ∗ anyAt c cc0_scratch2 ∗ anyAt c cc0_scratch3 ∗ anyAt c cc0_scratch4)

def zeros (c : Dev nD) : sProp 𝕄 :=
  iprop(semVal (barCell c) 0 ∗ (bigSep Finset.univ fun i => semVal (sendCell c i) 0) ∗ bigSep Finset.univ fun i => semVal (recvCell c i) 0)

def Φ₀ (c : Dev nD) : sProp 𝕄 := iprop(start m c ∗ scratch c)
def Φ₁ (c : Dev nD) : sProp 𝕄 := iprop(zeros c ∗ scratch c)

def dats (_ : Fin 1) (c : Dev nD) : Dat τ (Elt F) Unit ℕ UU ℕ cfg0 c where
  A w := m ((cfg0.win w).arr.view.loc (c : Thread nD τ))
  after w _ := match w with
    | ⟨0, _⟩ => eAt m c
    | ⟨1, _⟩ => xAt m c
    | ⟨2, _⟩ => wAt m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The routes are fetched at the step. -/
theorem fetch_0 (t : Fin cfg0.N) : (cfg0.win (0 : Fin 4)).fetch t = true := by rw [fin_N t]; rfl
/-- The tokens are fetched at the step. -/
theorem fetch_1 (t : Fin cfg0.N) : (cfg0.win (1 : Fin 4)).fetch t = true := by rw [fin_N t]; rfl
/-- The experts are fetched at the step. -/
theorem fetch_2 (t : Fin cfg0.N) : (cfg0.win (2 : Fin 4)).fetch t = true := by rw [fin_N t]; rfl

omit [FloatOps F] in
/-- Owning a whole buffer with given contents is holding it at those contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Whole loads and stores -/

/-- The offset of a whole load of a matrix is zero. -/
theorem hz2 : (![0, 0] : Fin 2 → Nat) = fun _ => 0 := funext fun a => by fin_cases a <;> rfl
/-- The offset of a whole load of three axes is zero. -/
theorem hz3 : (![0, 0, 0] : Fin 3 → Nat) = fun _ => 0 := funext fun a => by fin_cases a <;> rfl

omit [FloatOps F] in
/-- Slot 0, as it is stored into, is the elements of slot 0. -/
theorem slot0_set : ((rM : Memref sig .tc .vmem S8x64x1024 .bf16).access (slotRect 0)).set = slotSet 0 := View.set_slice_whole _ _

omit [FloatOps F] in
/-- Slot 0 of the receive buffer, once stored, holds the device's own rows. -/
theorem self_on (f g : (cc0_scratch2 : Ref sig .tc).ty.Contents (Elt F)) (w : S1x64x1024.Idx → Elt F .bf16)
    (hg : ∀ i : S8x64x1024.Idx, (i 0).val = 0 → g i = w (selfIn i)) (i : S8x64x1024.Idx) (hi : i ∈ slotSet 0) :
    ((rM : Memref sig .tc .vmem S8x64x1024 .bf16).access (slotRect 0)).write (Elt F) f w Finset.univ i = g i := by
  have h0 := (mem_slotSet 0 i).mp hi
  rw [← slot0_set] at hi
  obtain ⟨j, -, rfl⟩ := Finset.mem_map.mp hi
  refine (View.write_emb_of_mem _ _ (Finset.mem_univ j)).trans ((cast_eq _ _).trans ?_)
  rw [hg _ h0]
  refine congrArg w (funext fun a => Fin.ext ?_)
  have hv := fun a => ValueKit.view_emb_slice_whole_unit_val cc0_scratch2 ![(0 : Fin 8).val, 0, 0] S1x64x1024.size (slot_inb 0) j a
  have h1 := hv 1
  have h2 := hv 2
  have hj : (j 0).val < 1 := (j 0).isLt
  change _ = 0 + (j 1).val at h1
  change _ = 0 + (j 2).val at h2
  fin_cases a
  · show (j 0).val = 0
    omega
  · show (j 1).val = _
    exact (by omega : ∀ n : ℕ, n = 0 + (j 1).val → (j 1).val = n) _ h1
  · show (j 2).val = _
    exact (by omega : ∀ n : ℕ, n = 0 + (j 2).val → (j 2).val = n) _ h2

omit [FloatOps F] in
/-- The receive buffer, split: slot 0 stays, the seven others are lent. -/
theorem recv_split (c : Dev nD) (f : Buf (Elt F) ((c : Thread nD τ).loc cc0_scratch2)) :
    ((((c : Thread nD τ).loc cc0_scratch2) ↦{fullShare} f) : sProp 𝕄) ⊢ iprop(rPts c 0 f ∗ later (lend c) 0) := by
  rw [rPts_all, bigSep_eight, later_zero, bigSep_univ_equiv Fin.revPerm (fun i : Fin 7 => rPts c i.succ f)]
  exact sep_mono_right (bigSep_mono fun j _ => by
    show rPts c j.rev.succ f ⊢ iprop(∃ f, rPts c j.rev.succ f)
    iintro H
    iexists f
    iexact H)

/-- The receive buffer, joined. -/
theorem recv_join (c : Dev nD) : iprop(rPts c 0 (recvAt m c) ∗ bigSep Finset.univ (recvPay m c)) ⊢ ((((c : Thread nD τ).loc cc0_scratch2) ↦{fullShare} recvAt m c) : sProp 𝕄) := by
  rw [rPts_all, bigSep_eight]
  exact Entails.refl _

/-- The send buffer, split and joined. -/
theorem send_split (c : Dev nD) : ((((c : Thread nD τ).loc cc0_scratch1) ↦{fullShare} sendAt m c) : sProp 𝕄) = iprop(sPts c 0 (sendAt m c) ∗ bigSep Finset.univ (sendPay m c)) := by
  rw [sPts_all, bigSep_eight]
  rfl

abbrev rTok : Rect S2048x1 := Rect.unit (s := S2048x1) ![0, 0] S2048x1.size inb_S2048x1_S2048x1_0_0
omit [FloatOps F] in
/-- Loading the whole route column gives its contents. -/
theorem read_e (f : (cc0_stg0_0 : Ref sig .tc).ty.Contents (Elt F)) : (eM : Memref sig .tc .vmem S2048x1 .i32).view.readAt (Elt F) rTok.toLoadRect f = f :=
  Memref.readAt_unit_zero (Elt F) cc0_stg0_0 hz2 _ f
omit [FloatOps F] in
/-- Storing the whole rank column leaves what was stored. -/
theorem write_k (f w : (cc0_scratch3 : Ref sig .tc).ty.Contents (Elt F)) :
    ((kM : Memref sig .tc .vmem S2048x1 .i32).access rTok : View sig .tc _ _ _).write (Elt F) f w Finset.univ = w :=
  Memref.write_access_unit_zero_univ (Elt F) cc0_scratch3 hz2 _ f w
omit [FloatOps F] in
/-- Storing the whole place column leaves what was stored. -/
theorem write_p (f w : (cc0_scratch4 : Ref sig .tc).ty.Contents (Elt F)) :
    ((pM : Memref sig .tc .vmem S2048x1 .i32).access rTok : View sig .tc _ _ _).write (Elt F) f w Finset.univ = w :=
  Memref.write_access_unit_zero_univ (Elt F) cc0_scratch4 hz2 _ f w
omit [FloatOps F] in
/-- Loading all tokens gives their contents. -/
theorem read_x (f : (cc0_stg1_0 : Ref sig .tc).ty.Contents (Elt F)) :
    (xM : Memref sig .tc .vmem S2048x512 .f32).view.readAt (Elt F) (Rect.unit (s := S2048x512) ![0, 0] S2048x512.size inb_S2048x512_S2048x512_0_0).toLoadRect f = f :=
  Memref.readAt_unit_zero (Elt F) cc0_stg1_0 hz2 _ f
abbrev rOut : Rect S256x1024 := Rect.unit (s := S256x1024) ![0, 0] S256x1024.size inb_S256x1024_S256x1024_0_0
omit [FloatOps F] in
/-- Loading the whole chunk gives its contents. -/
theorem read_c (f : (cc0_scratch0 : Ref sig .tc).ty.Contents (Elt F)) : (cM : Memref sig .tc .vmem S256x1024 .f32).view.readAt (Elt F) rOut.toLoadRect f = f :=
  Memref.readAt_unit_zero (Elt F) cc0_scratch0 hz2 _ f
omit [FloatOps F] in
/-- Storing the whole result leaves what was stored. -/
theorem write_out (f w : (cc0_stg3_0 : Ref sig .tc).ty.Contents (Elt F)) :
    ((oM : Memref sig .tc .vmem S256x1024 .f32).access rOut : View sig .tc _ _ _).write (Elt F) f w Finset.univ = w :=
  Memref.write_access_unit_zero_univ (Elt F) cc0_stg3_0 hz2 _ f w
abbrev rSlots : Rect S8x64x1024 := Rect.unit (s := S8x64x1024) ![0, 0, 0] S8x64x1024.size inb_S8x64x1024_S8x64x1024_0_0_0
omit [FloatOps F] in
/-- Loading the whole receive buffer gives its contents. -/
theorem read_r (f : (cc0_scratch2 : Ref sig .tc).ty.Contents (Elt F)) : (rM : Memref sig .tc .vmem S8x64x1024 .bf16).view.readAt (Elt F) rSlots.toLoadRect f = f :=
  Memref.readAt_unit_zero (Elt F) cc0_scratch2 hz3 _ f
omit [FloatOps F] in
/-- Storing the whole send buffer leaves what was stored. -/
theorem write_s (f w : (cc0_scratch1 : Ref sig .tc).ty.Contents (Elt F)) :
    ((sM : Memref sig .tc .vmem S8x64x1024 .bf16).access rSlots : View sig .tc _ _ _).write (Elt F) f w Finset.univ = w :=
  Memref.write_access_unit_zero_univ (Elt F) cc0_scratch1 hz3 _ f w

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × CI → ℕ)

def bodyPre (c : Dev nD) : sProp 𝕄 :=
  iprop((ghost m K c ∗ cred (tallyAt (barCell c) () 7) ∗ later (credRecv c) 0 ∗ levAts L lv ∗ scratch c)
    ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

def bodyPost (c : Dev nD) : sProp 𝕄 :=
  iprop(Φ₁ c ∗ (dats m 0 c).owesAt () t₀.succ ∗ stg c cc0_stg0_0 (eAt m c) ∗ stg c cc0_stg1_0 (xAt m c) ∗ stg c cc0_stg2_0 (wAt m c) ∗ stg c cc0_stg3_0 (outAt m c))

/-- An entry of the chunk is an entry of its expert's block. -/
theorem chunk_at (c : Dev nD) (e : Vec F S2048x1 .i32) (x : Vec F S2048x512 .f32) (W : Vec F S8x512x1024 .f32) (l : Fin 8)
    (i : S256x1024.Idx) (hi : rowBlk i = l) : chunkV c e x W i = chunkBlk c e x W l (rowIn i) := by unfold chunkV; rw [hi]

/-- The device computed as the `j + 1`-th after `c` is that peer. -/
theorem nth (c : Dev nD) (j : Fin 7) (n : ℕ) (h : n < nD) (hn : n = (c.val + (j.val + 1)) % 8) : (⟨n, h⟩ : Dev nD) = peer c j :=
  Fin.ext (by unfold peer; show n = (c.val + j.val + 1) % 8; rw [hn, Nat.add_assoc])

set_option maxHeartbeats 4000000 in
/-- The body, run one operation after the other. -/
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) Kt := by
  simp only [cc0__body_eq_skeleton]; unfold cc0__body_skel
  simp only [k0_part19_eq_skeleton]; unfold k0_part19_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, wp_deviceId]
  unfold bodyPre ghost scratch
  iintro ⟨⟨⟨⟨#HR, HatB, HpS, HpR, HtB, HtR, HtS⟩, HcB, HcR, #Hlev, ⟨%f0, H0⟩, ⟨%f1, H1⟩, ⟨%f2, H2⟩, ⟨%f3, H3⟩, ⟨%f4, H4⟩⟩,
    Ho, ⟨%d0, %g0, %hg0, He⟩, ⟨%d1, %g1, %hg1, Hx⟩, ⟨%d2, %g2, %hg2, HW⟩, ⟨%d3, %g3, %hg3, Hout⟩⟩, Hk⟩
  have he : g0 = eAt m c := by rw [hg0]; unfold Dat.before; rw [if_pos (fetch_0 t₀)]; rfl
  have hx : g1 = xAt m c := by rw [hg1]; unfold Dat.before; rw [if_pos (fetch_1 t₀)]; rfl
  have hw : g2 = wAt m c := by rw [hg2]; unfold Dat.before; rw [if_pos (fetch_2 t₀)]; rfl
  clear hg0 hg1 hg2
  subst he hx hw
  unfold Dat.owesAt Pipeline.owesWithin
  icases Ho with ⟨%W₀, %hW, HO⟩
  rw [show (dats m 0 c).owed t₀.castSucc = O₀ c from rfl]
  unfold O₀
  ihave ⟨Hr0, Hl⟩ := (recv_split c f2) $$ H2
  ihave H : sigSt m K c 0 $$ [HO HtB Hl]
  · unfold sigSt
    isplitr; · iexact HR
    isplitl [HO]; · unfold owing; iexists W₀; iexact HO
    isplitl [HtB]; · iexact HtB
    iexact Hl
  -- seven signals
  iapply (step_signal m K c 0 _ (nth c 0 _ _ (k0_dev1_eq c))) $$ [H]; · iexact H
  iintro H
  iapply (step_signal m K c 1 _ (nth c 1 _ _ (k0_dev2_eq c))) $$ [H]; · iexact H
  iintro H
  iapply (step_signal m K c 2 _ (nth c 2 _ _ (k0_dev3_eq c))) $$ [H]; · iexact H
  iintro H
  iapply (step_signal m K c 3 _ (nth c 3 _ _ (k0_dev4_eq c))) $$ [H]; · iexact H
  iintro H
  iapply (step_signal m K c 4 _ (nth c 4 _ _ (k0_dev5_eq c))) $$ [H]; · iexact H
  iintro H
  iapply (step_signal m K c 5 _ (nth c 5 _ _ (k0_dev6_eq c))) $$ [H]; · iexact H
  iintro H
  iapply (step_signal m K c 6 _ (nth c 6 _ _ (k0_dev7_eq c))) $$ [H]; · iexact H
  iintro H
  unfold sigSt
  icases H with ⟨-, HO, -, -⟩
  rw [show ((6 : Fin 7).val + 1) = 7 from rfl, tail_seven, add_zero]
  -- ranks and positions
  iapply (wp_load 𝒱₀ (c : Thread nD τ) none Set.univ (m := eM) (Finset.subset_univ _)) $$ He; iintro He
  rw [read_e]
  iapply (wp_load 𝒱₀ (c : Thread nD τ) none Set.univ (m := kM) (Finset.subset_univ _)) $$ H3; iintro H3
  iapply (wp_store 𝒱₀ (c : Thread nD τ) none Set.univ (m := kM) (r := rTok) (Mk := Finset.univ) (Finset.subset_univ _)) $$ H3; iintro H3
  rw [write_k]
  iapply (wp_load 𝒱₀ (c : Thread nD τ) none Set.univ (m := pM) (Finset.subset_univ _)) $$ H4; iintro H4
  iapply (wp_store 𝒱₀ (c : Thread nD τ) none Set.univ (m := pM) (r := rTok) (Mk := Finset.univ) (Finset.subset_univ _)) $$ H4; iintro H4
  rw [write_p]
  iapply (wp_load 𝒱₀ (c : Thread nD τ) none Set.univ (m := xM) (Finset.subset_univ _)) $$ Hx; iintro Hx
  rw [read_x]
  -- eight experts
  ihave HC := (Entails.of_eq (congrArg (fun X => (((c : Thread nD τ).loc cc0_scratch0) ↦{fullShare} X : sProp 𝕄)) (chunkPart_zero (chunkV c (eAt m c) (xAt m c) (wAt m c)) f0).symm)) $$ H0
  ihave H : rowsSt m c f0 0 $$ [HW HC]
  · unfold rowsSt; isplitl [HW] <;> iassumption
  iapply (step_rows m c 0 f0 (fun s => k0_pay22 (keepV (F := F) (eAt m c)) (relV (F := F) c (eAt m c)) (xAt m c) s) fun _ hi => chunk_at c _ _ _ 0 _ hi) $$ [H]; · iexact H
  iintro H
  iapply (step_rows m c 1 f0 (fun s => k0_pay23 (keepV (F := F) (eAt m c)) (relV (F := F) c (eAt m c)) (xAt m c) s) fun _ hi => chunk_at c _ _ _ 1 _ hi) $$ [H]; · iexact H
  iintro H
  iapply (step_rows m c 2 f0 (fun s => k0_pay25 (k0_pay24 (keepV (F := F) (eAt m c)) (relV (F := F) c (eAt m c)) (xAt m c)) s) fun _ hi => chunk_at c _ _ _ 2 _ hi) $$ [H]; · iexact H
  iintro H
  iapply (step_rows m c 3 f0 (fun s => k0_pay26 (k0_pay21 (keepV (F := F) (eAt m c)) (relV (F := F) c (eAt m c)) (xAt m c)) s) fun _ hi => chunk_at c _ _ _ 3 _ hi) $$ [H]; · iexact H
  iintro H
  iapply (step_rows m c 4 f0 (fun s => k0_pay27 (k0_pay21 (keepV (F := F) (eAt m c)) (relV (F := F) c (eAt m c)) (xAt m c)) s) fun _ hi => chunk_at c _ _ _ 4 _ hi) $$ [H]; · iexact H
  iintro H
  iapply (step_rows m c 5 f0 (fun s => k0_pay28 (k0_pay21 (keepV (F := F) (eAt m c)) (relV (F := F) c (eAt m c)) (xAt m c)) s) fun _ hi => chunk_at c _ _ _ 5 _ hi) $$ [H]; · iexact H
  iintro H
  iapply (step_rows m c 6 f0 (fun s => k0_pay31 (k0_pay29 (k0_pay21 (keepV (F := F) (eAt m c)) (relV (F := F) c (eAt m c)) (xAt m c))) (k0_pay30 s) (constant S32x1024 .f32 0x00000000#32)) fun _ hi => chunk_at c _ _ _ 6 _ hi) $$ [H]; · iexact H
  iintro H
  iapply (step_rows m c 7 f0 (fun s => k0_pay32 (k0_pay21 (keepV (F := F) (eAt m c)) (relV (F := F) c (eAt m c)) (xAt m c)) s) fun _ hi => chunk_at c _ _ _ 7 _ hi) $$ [H]; · iexact H
  iintro H
  unfold rowsSt
  rw [show ((7 : Fin 8).val + 1) = 8 from rfl, chunkPart_eight]
  icases H with ⟨HW, H0⟩
  iapply (wp_load 𝒱₀ (c : Thread nD τ) none Set.univ (m := cM) (Finset.subset_univ _)) $$ H0; iintro H0
  rw [read_c]
  -- the rows to send
  iapply (wp_load 𝒱₀ (c : Thread nD τ) none Set.univ (m := sM) (Finset.subset_univ _)) $$ H1; iintro H1
  iapply (wp_store 𝒱₀ (c : Thread nD τ) none Set.univ (m := sM) (r := rSlots) (Mk := Finset.univ) (Finset.subset_univ _)) $$ H1; iintro H1
  rw [write_s]
  ihave H1 : ((((c : Thread nD τ).loc cc0_scratch1) ↦{fullShare} sendAt m c) : sProp 𝕄) $$ [H1]; · iexact H1
  ihave ⟨Hs0, Hss⟩ := (Entails.of_eq (send_split m c)) $$ H1
  -- the rows kept
  iapply (wp_load_rect 𝒱₀ (c : Thread nD τ) none Set.univ (m := rM) (r := slotRect 0) (S := slotSet 0) (by rw [slot0_set])) $$ [Hr0]
  · unfold rPts; iexact Hr0
  iintro Hr0
  iapply (wp_store 𝒱₀ (c : Thread nD τ) none Set.univ (m := rM) (r := slotRect 0) (Mk := Finset.univ) (S := slotSet 0) (by rw [View.setOn_univ, slot0_set])) $$ Hr0; iintro Hr0
  ihave Hr0 := (Entails.of_eq (pointsTo_congr fun i hi => self_on f2 (recvAt m c) (selfV c (eAt m c) (xAt m c) (wAt m c)) (fun i h => dif_pos h) i hi)) $$ Hr0
  -- the barrier
  iapply (step_barrier m K c) $$ [HO HcB HatB]
  · isplitr; · iexact HR
    isplitr; · iexact Hlev
    isplitl [HO]; · iexact HO
    isplitl [HcB] <;> iassumption
  iintro ⟨HO, HzB, Hb⟩
  -- seven sends
  ihave H : sendSt m K c 0 $$ [HO HtR HtS Hss Hb]
  · unfold sendSt
    isplitr; · iexact HR
    isplitl [HO]; · iexact HO
    isplitl [HtR]; · iexact HtR
    isplitl [HtS]; · iexact HtS
    isplitl [Hss]; · rw [later_zero]; iexact Hss
    isplitl [Hb]; · iexact Hb
    rw [earlier_zero]; iempintro
  iapply (step_send m K c 0 _ (nth c 0 _ _ (k0_dev8_eq c))) $$ [H]; · iexact H
  iintro H
  iapply (step_send m K c 1 _ (nth c 1 _ _ (k0_dev9_eq c))) $$ [H]; · iexact H
  iintro H
  iapply (step_send m K c 2 _ (nth c 2 _ _ (k0_dev10_eq c))) $$ [H]; · iexact H
  iintro H
  iapply (step_send m K c 3 _ (nth c 3 _ _ (k0_dev11_eq c))) $$ [H]; · iexact H
  iintro H
  iapply (step_send m K c 4 _ (nth c 4 _ _ (k0_dev12_eq c))) $$ [H]; · iexact H
  iintro H
  iapply (step_send m K c 5 _ (nth c 5 _ _ (k0_dev13_eq c))) $$ [H]; · iexact H
  iintro H
  iapply (step_send m K c 6 _ (nth c 6 _ _ (k0_dev14_eq c))) $$ [H]; · iexact H
  iintro H
  unfold sendSt
  icases H with ⟨-, HO, -, -, -, -, HcS⟩
  rw [show ((6 : Fin 7).val + 1) = 7 from rfl, tail_seven]
  ihave HcS := (Entails.of_eq (earlier_seven (credSend (F := F) c))) $$ HcS
  -- the device's own tokens
  iapply (wp_load 𝒱₀ (c : Thread nD τ) none Set.univ (m := eM) (Finset.subset_univ _)) $$ He; iintro He
  iapply (wp_load 𝒱₀ (c : Thread nD τ) none Set.univ (m := kM) (Finset.subset_univ _)) $$ H3; iintro H3
  iapply (wp_load 𝒱₀ (c : Thread nD τ) none Set.univ (m := pM) (Finset.subset_univ _)) $$ H4; iintro H4
  -- seven slots received
  ihave H : recvSt m K c 0 $$ [HO HpR HcR]
  · unfold recvSt
    isplitr; · iexact HR
    isplitl [HO]; · iexact HO
    isplitl [HpR]; · iexact HpR
    isplitl [HcR]; · iexact HcR
    rw [earlier_zero]; iempintro
  iapply (step_recv m K c 0) $$ [H]; · iexact H
  iintro H
  iapply (step_recv m K c 1) $$ [H]; · iexact H
  iintro H
  iapply (step_recv m K c 2) $$ [H]; · iexact H
  iintro H
  iapply (step_recv m K c 3) $$ [H]; · iexact H
  iintro H
  iapply (step_recv m K c 4) $$ [H]; · iexact H
  iintro H
  iapply (step_recv m K c 5) $$ [H]; · iexact H
  iintro H
  iapply (step_recv m K c 6) $$ [H]; · iexact H
  iintro H
  unfold recvSt
  icases H with ⟨-, HO, -, -, HdR⟩
  -- seven slots sent
  ihave H : sentSt m K c 0 $$ [HO HpS HcS]
  · unfold sentSt
    isplitr; · iexact HR
    isplitl [HO]; · iexact HO
    isplitl [HpS]; · iexact HpS
    isplitl [HcS]; · rw [later_zero]; iexact HcS
    rw [earlier_zero]; iempintro
  iapply (step_sent m K c 0) $$ [H]; · iexact H
  iintro H
  iapply (step_sent m K c 1) $$ [H]; · iexact H
  iintro H
  iapply (step_sent m K c 2) $$ [H]; · iexact H
  iintro H
  iapply (step_sent m K c 3) $$ [H]; · iexact H
  iintro H
  iapply (step_sent m K c 4) $$ [H]; · iexact H
  iintro H
  iapply (step_sent m K c 5) $$ [H]; · iexact H
  iintro H
  iapply (step_sent m K c 6) $$ [H]; · iexact H
  iintro H
  unfold sentSt
  icases H with ⟨-, HO, -, -, HdS⟩
  rw [show ((6 : Fin 7).val + 1) = 7 from rfl]
  ihave ⟨HzR, HrR⟩ := (Entails.of_eq ((earlier_seven (doneRecv m c)).trans (bigSep_sep' Finset.univ (fun i => semVal (recvCell c i) 0) (recvPay m c)))) $$ HdR
  ihave ⟨HzS, HrS⟩ := (Entails.of_eq ((earlier_seven (doneSend m c)).trans (bigSep_sep' Finset.univ (fun i => semVal (sendCell c i) 0) (sendPay m c)))) $$ HdS
  ihave H2 : ((((c : Thread nD τ).loc cc0_scratch2) ↦{fullShare} recvAt m c) : sProp 𝕄) $$ [Hr0 HrR]
  · iapply (recv_join m c)
    isplitl [Hr0]; · unfold rPts; iexact Hr0
    iexact HrR
  ihave H1 : ((((c : Thread nD τ).loc cc0_scratch1) ↦{fullShare} sendAt m c) : sProp 𝕄) $$ [Hs0 HrS]
  · iapply (Entails.of_eq (send_split m c).symm)
    isplitl [Hs0] <;> iassumption
  -- the result
  iapply (wp_load 𝒱₀ (c : Thread nD τ) none Set.univ (m := rM) (Finset.subset_univ _)) $$ H2; iintro H2
  rw [read_r]
  iapply (wp_load 𝒱₀ (c : Thread nD τ) none Set.univ (m := oM) (Finset.subset_univ _)) $$ Hout; iintro Hout
  iapply (wp_store 𝒱₀ (c : Thread nD τ) none Set.univ (m := oM) (r := rOut) (Mk := Finset.univ) (Finset.subset_univ _)) $$ Hout; iintro Hout
  rw [write_out, wp_ret]; imodintro
  iapply Hk
  unfold bodyPost Φ₁ zeros scratch Dat.owesAt Pipeline.owesWithin
  rw [show (dats m 0 c).owed t₀.succ = 0 from rfl]
  isplitl [HzB HzS HzR H0 H1 H2 H3 H4]
  · isplitl [HzB HzS HzR]
    · isplitl [HzB]; · iexact HzB
      isplitl [HzS] <;> iassumption
    isplitl [H0]; · iexists _; iexact H0
    isplitl [H1]; · iexists _; iexact H1
    isplitl [H2]; · iexists _; iexact H2
    isplitl [H3]; · iexists _; iexact H3
    iexists _; iexact H4
  isplitl [HO]
  · unfold owing
    icases HO with ⟨%W, HO⟩
    iexists W
    isplitr; · ipureintro; exact fun _ _ => Or.inl trivial
    iexact HO
  isplitl [He]
  · iexists _; isplitr; · (ipureintro; rfl)
    iexact He
  isplitl [Hx]
  · iexists _; isplitr; · (ipureintro; rfl)
    iexact Hx
  isplitl [HW]
  · iexists _; isplitr; · (ipureintro; rfl)
    iexact HW
  iexists _; isplitr; · (ipureintro; rfl)
  iexact Hout

def bodyPre' (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))

/-- The pipeline's obligation for the body. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0__body (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6) (fun _ => bodyPost m c)
  unfold bodyPre' Φ₀ start
  iintro ⟨⟨⟨⟨%K, Hg⟩, HcB, HcR, HL⟩, Hscr⟩, Ho, Hw⟩
  iapply (sound_body m K c fun _ => bodyPost m c)
  unfold bodyPre
  isplitr []
  · isplitl [Hg HcB HcR HL Hscr]
    · isplitl [Hg]; · iexact Hg
      isplitl [HcB]; · iexact HcB
      isplitl [HcR]; · iexact HcR
      isplitl [HL]; · iexact HL
      iexact Hscr
    isplitl [Ho] <;> iassumption
  · iintro H; iexact H

end Body

end Cert.KernelIdeal.Run

end
-- ==== Proof.Launch.lean ====
/-
The launch: the devices' semaphores and tokens dealt out, the program run from any memory, and what it leaves.
-/
module

public import proofs.«01_k».proof.Proof.Body
public import proofs.«01_k».proof.Proof.Gen.KernelIdeal.Frame
public import Idealize.ShloMosaic.Lib.Pipeline.CollectiveSegs
public import Idealize.ShloMosaic.Lib.Pipeline.Quiescent

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (m : (ℓ : Loc nD τ sig) → Buf (Elt F) ℓ)

variable (ρ : Dev nD → PrngReg)

/-! ## The semaphores of a device -/

/-- The semaphores the kernel allocates: seven for the sends, seven for the receives. -/
abbrev osem (k : Fin 7 ⊕ Fin 7) : SemLoc sig := csem (.inr k)

/-- The kernel's own semaphores are the fourteen of its copies. -/
theorem ownSemFacts : Pipeline.OwnSemFacts cfg0.spec osem := by decide

/-- Each window holds its array whole. -/
theorem share_eq (c : Dev nD) (w : Fin cfg0.W) : (dats m 0 c).share w = fullShare := by unfold Dat.share; split <;> rfl

/-- A device's cells lie on different semaphores. -/
theorem csem_injective : Function.Injective csem := by decide

/-- Different cells are different semaphores of different devices. -/
theorem kcell_injective : Function.Injective kcell := by
  rintro ⟨c, k⟩ ⟨c', k'⟩ h
  exact Prod.ext (congrArg (fun g : GSem nD τ sig => g.1.1) h) (csem_injective (congrArg Prod.snd h))

def theCells : Finset (GSem nD τ sig) := Finset.univ.map ⟨kcell, kcell_injective⟩

/-- The tokens of a device's cells: seven for its barrier, one for each send and receive cell. -/
def tokIx : Fin 7 ⊕ (Fin 7 ⊕ Fin 7) → CI × Fin 7
  | .inl d => (kBar, d)
  | .inr (.inl i) => (kSend i, 0)
  | .inr (.inr i) => (kRecv i, 0)

/-- The duties of the cells are numbered without repetition. -/
theorem tokIx_injective : Function.Injective tokIx := by decide

def tokOf (ck : Dev nD × (Fin 7 ⊕ (Fin 7 ⊕ Fin 7))) : GSem nD τ sig × ℕ × Fin 7 :=
  (kcell (ck.1, (tokIx ck.2).1), 0, (tokIx ck.2).2)

/-- Different duties have different tokens. -/
theorem tokOf_injective : Function.Injective tokOf := by
  rintro ⟨c, k⟩ ⟨c', k'⟩ h
  have h1 := kcell_injective (congrArg Prod.fst h)
  have h2 : (tokIx k).2 = (tokIx k').2 := congrArg (fun x => x.2.2) h
  exact Prod.ext (congrArg (fun x => x.1) h1) (tokIx_injective (Prod.ext (congrArg (fun x => x.2) h1) h2))

def theToks : Finset (GSem nD τ sig × ℕ × Fin 7) := Finset.univ.map ⟨tokOf, tokOf_injective⟩

def u₀ : UU :=
  (initOf (Pipeline.cells cfgs cellOf_inj) (Pipeline.launchToks cfgs cellOf_inj), initOf theCells theToks)

/-- The tokens of device `c`'s own cells. -/
def toks (c : Dev nD) : sProp 𝕄 :=
  iprop((bigSep Finset.univ fun d : Fin 7 => dutyTok ER (barCell c) 0 d)
    ∗ (bigSep Finset.univ fun i : Fin 7 => dutyTok ER (sendCell c i) 0 (0 : Fin 7))
    ∗ bigSep Finset.univ fun i : Fin 7 => dutyTok ER (recvCell c i) 0 (0 : Fin 7))

/-- What the launch deals device `c`. -/
def G (c : Dev nD) : sProp 𝕄 :=
  iprop((bigSep Finset.univ fun k : CI => roundState ER (theRd m) (kcell (c, k)) 0)
    ∗ (bigSep Finset.univ fun k : CI => iprop(atPos ER (kcell (c, k)) 0 ∅ 0 ∗ reached ER (kcell (c, k)) 0)) ∗ toks c)

/-- What the devices together make of it. -/
def G' (c : Dev nD) : sProp 𝕄 := iprop(∃ K, ghost m K c)

omit [FloatOps F] in
/-- A device's cells one kind after the other. -/
theorem bigSep_cells (Φ : CI → sProp 𝕄) :
    bigSep Finset.univ Φ = iprop(Φ kBar ∗ (bigSep Finset.univ fun i => Φ (kSend i)) ∗ bigSep Finset.univ fun i => Φ (kRecv i)) := by
  rw [bigSep_univ_sum, bigSep_univ_sum, Finset.univ_unique, bigSep_singleton]
  rfl

/-- The launch's element dealt out to the devices. -/
theorem fund : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CI => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [bigSep_univ_sum, bigSep_univ_sum]; rfl
  iintro HX
  imod (Rounds.fund ER (theRd m) theCells theToks) $$ HX with ⟨Hst, Hr, Hat, Htok⟩
  imodintro
  ihave Hst' := (Entails.of_eq (hX fun g => roundState ER (theRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero are the send and the receive semaphores at zero. -/
theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendCell c i) 0) ∗ bigSep Finset.univ fun i => semVal (recvCell c i) 0) := by
  unfold Pipeline.ownSems0; rw [bigSep_univ_sum]; rfl
omit [FloatOps F] in
/-- The only semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (theRd m) κ (kcell (c, k))))
          ∗ (bigSep Finset.univ fun k => iprop(atPos ER (kcell (c, k)) 0 ∅ 0 ∗ reached ER (kcell (c, k)) 0)) ∗ toks c) := by
  have hv : iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
    rw [ownSems0_eq, unscopedSems0_eq, bigSep_cells]
    iintro ⟨H, HB⟩
    isplitl [HB]; · iexact HB
    iexact H
  unfold G
  iintro ⟨Hos, Hus, Hst, Hat, Htok⟩
  ihave Hv := hv $$ [Hos Hus]
  · isplitl [Hos] <;> iassumption
  imod (show iprop((bigSep Finset.univ fun k : CI => semVal (kcell (c, k)) 0) ∗ bigSep Finset.univ fun k : CI => roundState ER (theRd m) (kcell (c, k)) 0)
      ⊢ (|={Set.univ}=> bigSep Finset.univ fun k => iprop(∃ κ : ℕ, cellInv ER (theRd m) κ (kcell (c, k))) : sProp 𝕄) from by
        rw [← bigSep_sep']
        exact (bigSep_mono fun k _ => (Rounds.body_intro ER (theRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Whose token a device pays a barrier with, and a landing. -/
def turnBar : Dev nD × Fin 7 ≃ Dev nD × Fin 7 where
  toFun p := (peer p.1 p.2, p.2.rev)
  invFun p := (peer p.1 p.2, p.2.rev)
  left_inv := by decide
  right_inv := by decide
def turnRecv : Dev nD × Fin 7 ≃ Dev nD × Fin 7 where
  toFun p := (peer p.1 p.2, p.2)
  invFun p := (peer p.1 p.2.rev, p.2)
  left_inv := by decide
  right_inv := by decide

/-- The positions and tokens that stay with device `c`. -/
def linear (c : Dev nD) : sProp 𝕄 :=
  iprop((bigSep Finset.univ fun k : CI => atPos ER (kcell (c, k)) 0 ∅ 0)
    ∗ (bigSep Finset.univ (tokBar c)) ∗ (bigSep Finset.univ (tokSend c)) ∗ bigSep Finset.univ (tokRecv c))

omit [FloatOps F] in
/-- Every token goes to the device that pays with it. -/
theorem toks_around : (bigSep Finset.univ fun c : Dev nD => (toks c : sProp 𝕄))
    ⊢ bigSep Finset.univ fun c : Dev nD => iprop((bigSep Finset.univ (tokBar c)) ∗ (bigSep Finset.univ (tokSend c)) ∗ bigSep Finset.univ (tokRecv c)) := by
  unfold toks
  rw [bigSep_sep', bigSep_sep', bigSep_sep', bigSep_sep',
    ← bigSep_univ_prod (fun p : Dev nD × Fin 7 => (dutyTok ER (barCell p.1) 0 p.2 : sProp 𝕄)),
    bigSep_univ_equiv turnBar (fun p : Dev nD × Fin 7 => (dutyTok ER (barCell p.1) 0 p.2 : sProp 𝕄)),
    ← bigSep_univ_prod (fun p : Dev nD × Fin 7 => (dutyTok ER (recvCell p.1 p.2) 0 (0 : Fin 7) : sProp 𝕄)),
    bigSep_univ_equiv turnRecv (fun p : Dev nD × Fin 7 => (dutyTok ER (recvCell p.1 p.2) 0 (0 : Fin 7) : sProp 𝕄)), bigSep_univ_prod, bigSep_univ_prod]
  exact Entails.refl _

/-- The shared records and a device's own tokens are what that device starts with. -/
theorem ghost_intro (K : Dev nD × CI → ℕ) (c : Dev nD) : iprop(recs m K ∗ linear c) ⊢ G' m c := by
  unfold linear G' ghost
  rw [bigSep_cells, later_zero, later_zero, later_zero, later_zero, later_zero]
  iintro ⟨HR, ⟨HaB, HaS, HaV⟩, HtB, HtS, HtV⟩
  iexists K
  isplitl [HR]; · iexact HR
  isplitl [HaB]; · iexact HaB
  isplitl [HaS]; · iexact HaS
  isplitl [HaV]; · iexact HaV
  isplitl [HtB]; · iexact HtB
  isplitl [HtV]; · iexact HtV
  iexact HtS

omit [FloatOps F] in
/-- A fact that may be copied can be handed to every member. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants become everybody's, the tokens go round. -/
theorem regroup :
    (bigSep Finset.univ fun c : Dev nD => iprop((bigSep Finset.univ fun k => iprop(∃ κ : ℕ, cellInv ER (theRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CI => iprop(∃ κ : ℕ, cellInv ER (theRd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, HR⟩, Htok⟩
  ihave HK := (BI.bigSep_exists_pi Finset.univ (fun (ck : Dev nD × CI) (κ : ℕ) => (cellInv ER (theRd m) κ (kcell ck) : sProp 𝕄))) $$ HI
  icases HK with ⟨%K, HI⟩
  ihave Htk := (toks_around (F := F)) $$ Htok
  iapply (with_persistent (R := recs m K) (Φ := linear) fun c _ => ghost_intro m K c)
  isplitl [HI HR]
  · iapply (Entails.of_eq (show recs m K = _ from bigSep_sep' Finset.univ
      (fun ck : Dev nD × CI => (cellInv ER (theRd m) (K ck) (kcell ck) : sProp 𝕄)) (fun ck => reached ER (kcell ck) 0)).symm)
    isplitl [HI]; · iexact HI
    iexact HR
  · iapply (Entails.of_eq (bigSep_sep' Finset.univ (fun c : Dev nD => bigSep Finset.univ fun k : CI => (atPos ER (kcell (c, k)) 0 ∅ 0 : sProp 𝕄))
      (fun c => iprop((bigSep Finset.univ (tokBar c)) ∗ (bigSep Finset.univ (tokSend c)) ∗ bigSep Finset.univ (tokRecv c)))).symm)
    isplitl [Hat]; · iexact Hat
    iexact Htk

/-- From all semaphores at zero, every device gets its start. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the others owe a device -/

/-- Two cells are one when the device and the kind agree. -/
theorem kcell_eq_iff {a b : Dev nD} {k k' : CI} : Iff (kcell (a, k) = kcell (b, k')) (a = b ∧ k = k') :=
  ⟨fun h => ⟨congrArg Prod.fst (kcell_injective h), congrArg Prod.snd (kcell_injective h)⟩, fun h => by rw [h.1, h.2]⟩

/-- What device `d` owes a cell of device `c`: a slot's credit to a receive cell it fills, a unit to a peer's barrier. -/
theorem owed (d c : Dev nD) (k : CI) : O₀ d (kcell (c, k)) ()
    = (∑ j, if c = peer d j ∧ k = kRecv j then N else 0) + ∑ j, if c = peer d j ∧ k = kBar then 1 else 0 := by
  unfold O₀
  rw [Pi.add_apply, Finsupp.add_apply, tail_zero, tail_zero, sum_tally_apply, sum_tally_apply]
  congr 1
  · refine Finset.sum_congr rfl fun j _ => ?_
    rw [tallyAt_apply]
    exact if_congr ((and_iff_left rfl).trans (kcell_eq_iff (a := c) (b := peer d j) (k := k) (k' := kRecv j))) rfl rfl
  · refine Finset.sum_congr rfl fun j _ => ?_
    rw [tallyAt_apply]
    exact if_congr ((and_iff_left rfl).trans (kcell_eq_iff (a := c) (b := peer d j) (k := k) (k' := kBar))) rfl rfl

/-- Every device is a peer of seven. -/
theorem peers_seven : ∀ c : Dev nD, (∑ d : Dev nD, ∑ j : Fin 7, if c = peer d j then 1 else 0) = 7 := by decide
/-- Each slot of a device is filled by one peer. -/
theorem peers_one : ∀ (c : Dev nD) (i : Fin 7), (∑ d : Dev nD, ∑ j : Fin 7, if c = peer d j ∧ i = j then 1 else 0) = 1 := by decide

/-- A barrier is owed seven units in all. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, ← peers_seven c]
  refine Finset.sum_congr rfl fun d _ => (owed d c kBar).trans ?_
  rw [Finset.sum_congr rfl fun j _ => if_neg (fun h => by cases h.2), Finset.sum_const_zero, Nat.zero_add]
  exact Finset.sum_congr rfl fun j _ => if_congr (and_iff_left rfl) rfl rfl

/-- A receive cell is owed one slot's credit in all. -/
theorem launch_recv (c : Dev nD) (i : Fin 7) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same]
  have h : ∀ n : ℕ, n = n * ∑ d : Dev nD, ∑ j : Fin 7, if c = peer d j ∧ i = j then 1 else 0 := fun n => by rw [peers_one, Nat.mul_one]
  refine Eq.trans ?_ (h N).symm
  rw [Finset.mul_sum]
  refine Finset.sum_congr rfl fun d _ => (owed d c (kRecv i)).trans ?_
  rw [Finset.mul_sum, Finset.sum_congr (s₁ := Finset.univ) (g := fun _ => 0) rfl (fun (j : Fin 7) _ => if_neg (fun h : c = peer d j ∧ kRecv i = kBar => by cases h.2)),
    Finset.sum_const_zero, Nat.add_zero]
  refine Finset.sum_congr rfl fun j _ => ?_
  rw [mul_ite, Nat.mul_one, Nat.mul_zero]
  exact if_congr (and_congr_right fun _ => ⟨fun h => Sum.inr.inj (Sum.inr.inj h), fun h => congrArg _ h⟩) rfl rfl

omit [FloatOps F] in
/-- The credits of the launch are those of the barrier and of the seven receive cells. -/
theorem creds (c : Dev nD) :
    (Pipeline.launchCred O₀ c : sProp 𝕄) ⊢ iprop(cred (tallyAt (barCell c) () 7) ∗ bigSep Finset.univ (credRecv c)) := by
  unfold Pipeline.launchCred
  rw [bigSep_univ_at _ (SemLoc.reg barS), launch_bar]
  refine sep_mono_right ?_
  rw [show (bigSep Finset.univ (credRecv (F := F) c)) = bigSep (Finset.univ.map ⟨fun i : Fin 7 => csem (kRecv i), fun i j h => Sum.inr.inj (Sum.inr.inj (csem_injective h))⟩)
      (fun sm => (cred (tallyOn ((c : Thread nD τ), sm) (launchCredit (Pipeline.owing O₀) 0 ((c : Thread nD τ), sm))) : sProp 𝕄)) from by
    rw [bigSep_map]
    exact bigSep_congr fun i _ => by unfold credRecv; rw [← launch_recv]; rfl]
  refine bigSep_subset fun sm h => ?_
  obtain ⟨i, -, rfl⟩ := Finset.mem_map.mp h
  exact Finset.mem_erase.mpr ⟨recv_ne_bar i, Finset.mem_univ _⟩

/-! ## The sides of the launch -/

/-- The argument the kernel does not read. -/
def spare (c : Dev nD) : sProp 𝕄 := ((c : Thread nD τ).loc main_arg1) ↦{fullShare} m ((c : Thread nD τ).loc main_arg1)

/-- What the launch gives a device is its start and the argument it does not read. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ spare m c) := by
  rw [Pipeline.unscopedRestP_none, unscopedRest0_eq]
  iintro ⟨HZ, Hlev, Hcr, -, HG⟩
  ihave Hc := (creds (F := F) c) $$ Hcr
  icases Hc with ⟨H1, HN⟩
  imodintro
  unfold start G' spare
  rw [later_zero]
  isplitr [HZ]
  · isplitl [HG]; · iexact HG
    isplitl [H1]; · iexact H1
    isplitl [HN]; · iexact HN
    iexact Hlev
  · iexact HZ

/-- The start and the scratch buffers are what the body begins with. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch anyAt
  iintro ⟨Hs, -, Hr⟩
  isplitl [Hs]; · iexact Hs
  iexact Hr

/-- What the body ends with gives back every semaphore at zero and the scratch buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ zeros scratch anyAt
  iintro ⟨⟨HB, HS, HV⟩, Hr⟩
  isplitl [HB]; · iexact HB
  isplitl [HS HV]
  · isplitl [HS] <;> iassumption
  iexact Hr

/-- The waits on the staging copies are allowed. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def s₀ : MemSt nD τ sig (Elt F) := ⟨m, fun _ => 0, ρ⟩

/-- What a run leaves: the windows' arrays, and the argument the kernel does not read. -/
def QC : PUnit × MemSt nD τ sig (Elt F) → Prop := fun r => ∀ c : Dev nD,
  (∀ w : Fin cfg0.W, r.2.mem ((cfg0.win w).arr.view.loc (c : Thread nD τ)) = (dats m 0 c).arrAt w cfg0.N)
  ∧ r.2.mem ((c : Thread nD τ).loc main_arg1) = m ((c : Thread nD τ).loc main_arg1)

/-- The argument that the kernel does not read is as it was. -/
theorem spare_read (c : Dev nD) (s' : Phys nD τ sig (Elt F)) :
    iprop(spare m c ∗ SI s') ⊢ iprop(⌜s'.mem.mem ((c : Thread nD τ).loc main_arg1) = m ((c : Thread nD τ).loc main_arg1)⌝ ∗ (SI s' : sProp 𝕄)) := by
  have h := pointsTo_read_all (Ix := Unit) (Name := ℕ) (U := UU) (Lvl := ℕ) ({()} : Finset Unit) (fun _ => (c : Thread nD τ).loc main_arg1) (fun _ => m ((c : Thread nD τ).loc main_arg1)) s' fullShare
  rw [bigSep_singleton] at h
  exact h.trans (sep_mono_left (BI.pure_mono fun h => h () (Finset.mem_singleton_self _)))

set_option maxRecDepth 8000 in
/-- From any memory, with every counter at zero, the program runs to its end on every device; it leaves the arrays as
    the body's result says and every counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := spare m)
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, HZ, HSI⟩
      ihave Hr := (spare_read m c s') $$ [HZ HSI]
      · isplitl [HZ] <;> iassumption
      icases Hr with ⟨%hr, HSI⟩
      imod (Pipeline.unscopedSems0_read (X := unscopedSems0 c) (c := c) fupd_intro s') $$ [Hu HSI] with ⟨%hs, HSI⟩
      · isplitl [Hu] <;> iassumption
      imodintro
      isplitr; · ipureintro; exact ⟨hs, hr⟩
      iexact HSI)
    (hQ := fun _ h hs => ⟨fun c => ⟨(h c).1, (h c).2.2.2⟩, sem_eq_zero hs fun c => (h c).2.2.1⟩)

end Cert.KernelIdeal.Run

end
-- ==== Proof.Same.lean ====
/-
The kernel as printed and the kernel as idealized are one text: the runs of the one are the runs of the other.
-/
module

public import proofs.«01_k».proof.Kernel
public import proofs.«01_k».proof.KernelIdeal
public import proofs.«01_k».proof.Proof.Gen.Kernel
public import proofs.«01_k».proof.Proof.Gen.KernelIdeal
public import Idealize.ShloMosaic.Lib.Pipeline.Regions

@[expose] public section

noncomputable section

namespace Cert.Same

open Idealize.ShloMosaic Idealize.SL.Sem

variable {F : FTy → Type} [FloatOps F]

/-- The two programs have the same buffers. -/
theorem sig_eq : Cert.Kernel.sig = Cert.KernelIdeal.sig := rfl

/-- The two programs have the same body. -/
theorem body_eq : Cert.Kernel.cc0__body (F := F) = Cert.KernelIdeal.cc0__body (F := F) := by chain_rfl

/-- The two programs define the same kernel. -/
theorem defs₀_eq : Cert.Kernel.defs₀ (F := F) = Cert.KernelIdeal.defs₀ (F := F) := by chain_rfl

/-- The two programs define the same functions. -/
theorem defs_eq : Cert.Kernel.defs (F := F) = Cert.KernelIdeal.defs (F := F) := by chain_rfl

/-- The two programs have the same main. -/
theorem main_eq : Cert.Kernel.main (F := F) = Cert.KernelIdeal.main (F := F) := by chain_rfl

end Cert.Same

end
-- ==== Proof.Frames.lean ====
/-
The frames of the kernel, as printed and as idealized: it runs to its end, its arguments end unchanged, every counter
ends at zero.
-/
module

public import proofs.«01_k».proof.Proof.Launch
public import proofs.«01_k».proof.Proof.Same

@[expose] public section

noncomputable section

namespace Cert.KernelIdeal.Run

open Cert.KernelIdeal Cert.KernelIdeal.Gen
open Idealize.ShloMosaic Idealize.ShloMosaic.TcCoe Idealize.SL.Sem

variable {F : FTy → Type} [FloatOps F]

/-- The four arguments as they were. -/
def Kept (m : (ℓ : Loc nD τ sig) → Buf (Elt F) ℓ) (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)

/-- What a run leaves has the four arguments as they were. -/
theorem kept_of_QC (m : (ℓ : Loc nD τ sig) → Buf (Elt F) ℓ) {r : PUnit × MemSt nD τ sig (Elt F)} (h : QC m r) (c : Dev nD) : Kept m r.2 c :=
  ⟨((h c).1 (1 : Fin 4)).trans ((dats m 0 c).arrAt_in (1 : Fin 4) rfl _), (h c).2,
    ((h c).1 (0 : Fin 4)).trans ((dats m 0 c).arrAt_in (0 : Fin 4) rfl _),
    ((h c).1 (2 : Fin 4)).trans ((dats m 0 c).arrAt_in (2 : Fin 4) rfl _)⟩

/-- The frame of the idealized program, whatever the floats are. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD, Kept m r.2 c) ∧ r.2.sem = fun _ => 0) :=
  (θ_run defs _ _).mono (fun _ h => ⟨fun c => kept_of_QC m h.1 c, h.2⟩) (run_main m ρ)

end Cert.KernelIdeal.Run

namespace Cert.Kernel.Run

open Cert.Kernel Cert.Kernel.Gen
open Idealize.ShloMosaic Idealize.ShloMosaic.TcCoe Idealize.SL.Sem

variable {F : FTy → Type} [FloatOps F]

/-- The printed program's frame is the idealized one's: they are one text. -/
theorem frame_eq (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0)
      = θ_run Cert.KernelIdeal.defs (onTc (τ := Cert.KernelIdeal.τ) (Cert.KernelIdeal.main (F := F))) ⟨m, fun _ => 0, ρ⟩
          (fun r => (∀ c : Dev Cert.KernelIdeal.nD, Cert.KernelIdeal.Run.Kept (F := F) m r.2 c) ∧ r.2.sem = fun _ => 0) := by
  chain_rfl

/-- The frame of the kernel, whatever the floats are. -/
theorem frame_run (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) ∧ r.2.sem = fun _ => 0) :=
  (frame_eq m ρ).mpr (Cert.KernelIdeal.Run.frame_run (F := F) m ρ)

end Cert.Kernel.Run

end
-- ==== Proof.Arrays.lean ====
/-
  The arrays a device ends with: what it read is its arguments, and its result array is the result.
-/
module

public import proofs.«01_k».proof.Proof.Launch
public import Idealize.ShloMosaic.Lib.Pointwise
public import Idealize.ShloMosaic.Lib.Pipeline.Value
public import Idealize.ShloMosaic.Lib.Pipeline.ValueKit

@[expose] public section

noncomputable section

namespace Cert.KernelIdeal.Run

open Cert.KernelIdeal Cert.KernelIdeal.Gen
open Idealize.ShloMosaic Idealize.ShloMosaic.TcCoe
set_option maxRecDepth 16384

variable (m : (ℓ : Loc nD τ sig) → Buf (Elt Ideal) ℓ)

/-- The route column a device reads is its argument. -/
theorem eAt_eq (c : Dev nD) : eAt m c = m ((c.tc : Thread nD τ).loc main_arg2) := by
  funext y
  unfold eAt
  blk_simp
  refine congrArg (m ((c.tc : Thread nD τ).loc main_arg2)) ?_
  funext a
  refine Fin.ext ?_
  match a with
  | 0 => blk_simp; exact (congrArg (· * 2048 + (y 0).val) (show win0_0.index (0 : Fin 1) 0 = 0 from rfl)).trans (by omega)
  | 1 => exact congrArg Fin.val (Subsingleton.elim (α := Fin 1) _ _)

/-- The tokens a device reads are its argument. -/
theorem xAt_eq (c : Dev nD) : xAt m c = m ((c.tc : Thread nD τ).loc main_arg0) := by
  funext y
  unfold xAt
  blk_simp
  refine congrArg (m ((c.tc : Thread nD τ).loc main_arg0)) ?_
  funext a
  refine Fin.ext ?_
  match a with
  | 0 => blk_simp; exact (congrArg (· * 2048 + (y 0).val) (show win0_1.index (0 : Fin 1) 0 = 0 from rfl)).trans (by omega)
  | 1 => blk_simp; exact (congrArg (· * 512 + (y 1).val) (show win0_1.index (0 : Fin 1) 1 = 0 from rfl)).trans (by omega)

/-- The experts a device reads are its argument. -/
theorem wAt_eq (c : Dev nD) : wAt m c = m ((c.tc : Thread nD τ).loc main_arg3) := by
  funext y
  unfold wAt
  blk_simp
  refine congrArg (m ((c.tc : Thread nD τ).loc main_arg3)) ?_
  funext a
  refine Fin.ext ?_
  match a with
  | 0 => blk_simp; exact (congrArg (· * 8 + (y 0).val) (show win0_2.index (0 : Fin 1) 0 = 0 from rfl)).trans (by omega)
  | 1 => blk_simp; exact (congrArg (· * 512 + (y 1).val) (show win0_2.index (0 : Fin 1) 1 = 0 from rfl)).trans (by omega)
  | 2 => blk_simp; exact (congrArg (· * 1024 + (y 2).val) (show win0_2.index (0 : Fin 1) 2 = 0 from rfl)).trans (by omega)

/-- The result array ends as the result. -/
theorem arr_out (c : Dev nD) : (dats m 0 c).arrAt (3 : Fin 4) cfg0.N = outAt m c := by
  refine (dats m 0 c).arrAt_eq_of_covers (3 : Fin 4) _ (by decide +kernel) fun t hf y => ?_
  blk_simp
  refine congrArg (outAt m c) ?_
  funext a
  refine Fin.ext ?_
  match a with
  | 0 => blk_simp; exact ((congrArg (· * 256 + (y 0).val) (show win0_3.index t 0 = 0 from rfl)).trans (by omega)).symm
  | 1 => blk_simp; exact ((congrArg (· * 1024 + (y 1).val) (show win0_3.index t 1 = 0 from rfl)).trans (by omega)).symm

end Cert.KernelIdeal.Run
end
end
-- ==== Proof.Tokens.lean ====
/-
  Ranks and places of tokens, as numbers: how many earlier tokens go to a token's expert, and how many earlier kept
  tokens of its 256 go to its expert's device. Each of the two, with what it is counted among, names the token.
-/
module

public import Mathlib.Data.Fintype.Basic
public import Mathlib.Data.Finset.Card
public import Mathlib.Order.Interval.Finset.Fin

@[expose] public section

namespace Cert.Tokens

variable (E : Fin 2048 → ℕ)

/-- How many earlier tokens go to the expert of token `t`. -/
def rank (t : Fin 2048) : ℕ := (Finset.univ.filter fun j : Fin 2048 => j < t ∧ E j = E t).card

/-- The tokens that expert `E t`'s device takes from the 256 tokens around `t`, before `t`. -/
def ahead (t : Fin 2048) : Finset (Fin 2048) :=
  Finset.univ.filter fun j => j < t ∧ j.val / 256 = t.val / 256 ∧ E j / 8 = E t / 8 ∧ rank E j < 25

/-- How many of them there are. -/
def place (t : Fin 2048) : ℕ := (ahead E t).card

variable {E}

/-- A count of earlier members of a class grows at a member, so it tells the members apart. -/
theorem eq_of_counts {p : Fin 2048 → Prop} [DecidablePred p] {s t : Fin 2048} (hs : p s) (ht : p t)
    (h : (Finset.univ.filter fun j => j < s ∧ p j).card = (Finset.univ.filter fun j => j < t ∧ p j).card) : s = t := by
  have grow : ∀ a b : Fin 2048, p a → a < b →
      (Finset.univ.filter fun j => j < a ∧ p j).card < (Finset.univ.filter fun j => j < b ∧ p j).card := by
    intro a b ha hab
    refine Finset.card_lt_card (Finset.ssubset_iff_of_subset ?_ |>.2 ⟨a, ?_, ?_⟩)
    · intro j hj
      simp only [Finset.mem_filter, Finset.mem_univ, true_and] at hj ⊢
      exact ⟨lt_trans hj.1 hab, hj.2⟩
    · simp only [Finset.mem_filter, Finset.mem_univ, true_and]; exact ⟨hab, ha⟩
    · simp only [Finset.mem_filter, Finset.mem_univ, true_and]; exact fun hh => lt_irrefl _ hh.1
  rcases lt_trichotomy s t with hlt | heq | hgt
  · exact absurd h (grow s t hs hlt).ne
  · exact heq
  · exact absurd h (grow t s ht hgt).ne'

/-- An expert and a rank name a token. -/
theorem eq_of_rank {s t : Fin 2048} (he : E s = E t) (h : rank E s = rank E t) : s = t := by
  refine eq_of_counts (p := fun j => E j = E t) he rfl ?_
  unfold rank at h
  rwa [he] at h

/-- A block of 256 tokens, a device and a place name a kept token. -/
theorem eq_of_place {s t : Fin 2048} (hb : s.val / 256 = t.val / 256) (ho : E s / 8 = E t / 8) (hs : rank E s < 25)
    (ht : rank E t < 25) (h : place E s = place E t) : s = t := by
  refine eq_of_counts (p := fun j => j.val / 256 = t.val / 256 ∧ E j / 8 = E t / 8 ∧ rank E j < 25) ⟨hb, ho, hs⟩ ⟨rfl, rfl, ht⟩ ?_
  unfold place ahead at h
  rwa [hb, ho] at h

/-- A rank is below the number of tokens. -/
theorem rank_lt (t : Fin 2048) : rank E t < 2048 := by
  have h : rank E t ≤ t.val := by
    refine (Finset.card_le_card (fun j hj => ?_)).trans (le_of_eq (Fin.card_Iio t))
    rw [Finset.mem_Iio]
    exact (Finset.mem_filter.1 hj).2.1
  omega

/-- A place is below the number of tokens. -/
theorem place_lt (t : Fin 2048) : place E t < 2048 := by
  have h : place E t ≤ t.val := by
    refine (Finset.card_le_card (fun j hj => ?_)).trans (le_of_eq (Fin.card_Iio t))
    rw [Finset.mem_Iio]
    exact (Finset.mem_filter.1 hj).2.1
  omega

end Cert.Tokens

end
-- ==== Proof.Words.lean ====
/-
  Words that hold small natural numbers, and extended reals that hold natural numbers.
-/
module

public import Idealize.ShloMosaic.Lib.Pointwise
public import Idealize.ShloMosaic.Lib.Routing.Words
public import Idealize.ShloMosaic.Lib.Routing.BitFacts
public import Idealize.ShloMosaic.Lib.WordArith

@[expose] public section

namespace Cert.Words

open Idealize.ShloMosaic Idealize.ShloMosaic.Routing

/-- A comparison of two small numbers, at least. -/
theorem sge_word {a b : ℕ} (ha : a < 2 ^ 31) (hb : b < 2 ^ 31) :
    IntOp.cmpi .sge (BitVec.ofNat 32 a) (BitVec.ofNat 32 b) = BitVec.ofBool (decide (b ≤ a)) := by
  show BitVec.ofBool ((BitVec.ofNat 32 b).sle (BitVec.ofNat 32 a)) = _
  rw [sle_ofNat32 hb ha]

/-- Comparing small words compares the numbers: greater. -/
theorem sgt_word {a b : ℕ} (ha : a < 2 ^ 31) (hb : b < 2 ^ 31) :
    IntOp.cmpi .sgt (BitVec.ofNat 32 a) (BitVec.ofNat 32 b) = BitVec.ofBool (decide (b < a)) := by
  show BitVec.ofBool ((BitVec.ofNat 32 b).slt (BitVec.ofNat 32 a)) = _
  rw [slt_ofNat32 hb ha]

/-- Comparing small words compares the numbers: less. -/
theorem slt_word {a b : ℕ} (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  rw [slt_ofNat32 ha hb]

/-- Small numbers with one word are one number. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · exact fun h => h ▸ rfl

/-- Comparing words of small numbers compares the numbers: equal. -/
theorem eq_word {a b : ℕ} (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff, ofNat_inj ha hb]

/-- Comparing words for equality. -/
theorem eq_word' (x y : BitVec 32) : IntOp.cmpi .eq x y = BitVec.ofBool (decide (x = y)) := by
  show BitVec.ofBool (x == y) = _
  congr 1

/-- The conjunction of two marks marks the conjunction. -/
theorem and_bit (p q : Prop) [Decidable p] [Decidable q] :
    IntOp.andi (BitVec.ofBool (decide p)) (BitVec.ofBool (decide q)) = BitVec.ofBool (decide (p ∧ q)) := by
  rw [WordArith.andi_ofBool]; congr 1; simp

/-- A choice by a mark is a choice by what it marks. -/
theorem select_bit {α : Type} (p : Prop) [Decidable p] (a b : α) :
    Scalar.select (BitVec.ofBool (decide p)) a b = if p then a else b := by
  by_cases h : p
  · simp only [h, decide_true, if_true]; rfl
  · simp only [h, decide_false, if_false]; rfl

/-- A truth value as an extended real. -/
theorem sitofp_bit (p : Prop) [Decidable p] :
    (FloatOps.sitofp (F := Ideal) .f32 ((BitVec.ofBool (decide p)).setWidth 32) : EReal) = if p then 1 else 0 := by
  rw [setWidth_ofBool]
  by_cases h : p
  · simp only [h, if_true]
    show (((BitVec.ofNat 32 1).toInt : ℝ) : EReal) = 1
    rw [show (BitVec.ofNat 32 1).toInt = 1 from by decide]; simp
  · simp only [h, if_false]
    show (((BitVec.ofNat 32 0).toInt : ℝ) : EReal) = 0
    rw [show (BitVec.ofNat 32 0).toInt = 0 from by decide]; simp

/-- The word of an extended real that holds a small natural number. -/
theorem fptosi_nat (n : ℕ) (h : n < 2 ^ 31) :
    FloatOps.fptosi (F := Ideal) (φ := .f32) 32 ((n : ℕ) : EReal) = BitVec.ofNat 32 n := by
  show Ideal.fptosi 32 ((n : ℕ) : EReal) = _
  unfold Ideal.fptosi
  rw [show ((n : ℕ) : EReal) = ((n : ℝ) : EReal) from rfl]
  show BitVec.ofInt 32 (max _ (min _ (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  rfl

/-- A difference of counts, as a real, is the count of the difference. -/
theorem nat_sub {a b : ℕ} (h : b ≤ a) : ((a : ℕ) : EReal) - ((b : ℕ) : EReal) = ((a - b : ℕ) : EReal) := by
  rw [show ((a : ℕ) : EReal) = ((a : ℝ) : EReal) from rfl, show ((b : ℕ) : EReal) = ((b : ℝ) : EReal) from rfl,
    ← EReal.coe_sub, show ((a - b : ℕ) : EReal) = (((a - b : ℕ) : ℝ) : EReal) from rfl, Nat.cast_sub h]

/-- A sum of truth values counts. -/
theorem sum_bits {α : Type} (s : Finset α) (p : α → Prop) [DecidablePred p] :
    ∑ j ∈ s, (if p j then (1 : EReal) else 0) = (((s.filter p).card : ℕ) : EReal) := by
  rw [← Finset.sum_filter, Finset.sum_const, nsmul_one]

/-- Division by 8, rounded down, as the programs spell it: the quotient toward zero, less one where the signs differ
and a remainder is left. -/
abbrev floorDiv8 (n : ℕ) : BitVec 32 :=
    Scalar.select (IntOp.andi (IntOp.cmpi .ne (IntOp.subi ((IntOp.cmpi .sgt (BitVec.ofNat 32 n) 0#32).setWidth 32)
        ((IntOp.cmpi .slt (BitVec.ofNat 32 n) 0#32).setWidth 32))
        (Scalar.subi (Scalar.extui (Scalar.cmpi CmpIPredicate.sgt 8#32 0#32)) (Scalar.extui (Scalar.cmpi CmpIPredicate.slt 8#32 0#32))))
      (IntOp.cmpi .ne (IntOp.remsi .vector (BitVec.ofNat 32 n) 8#32) 0#32))
      (IntOp.subi (IntOp.divsi .vector (BitVec.ofNat 32 n) 8#32) 1#32) (IntOp.divsi .vector (BitVec.ofNat 32 n) 8#32)

/-- The printed floor division by 8 divides by 8. -/
theorem floor8 {n : ℕ} (h : n < 64) : floorDiv8 n = BitVec.ofNat 32 (n / 8) := by
  have : ∀ n : Fin 64, floorDiv8 n.val = BitVec.ofNat 32 (n.val / 8) := by decide +kernel
  exact this ⟨n, h⟩

/-- Division by 256, rounded down, as the programs spell it. -/
abbrev floorDiv256 (n : ℕ) : BitVec 32 :=
    Scalar.select (IntOp.andi (IntOp.cmpi .ne (IntOp.subi ((IntOp.cmpi .sgt (BitVec.ofNat 32 n) 0#32).setWidth 32)
        ((IntOp.cmpi .slt (BitVec.ofNat 32 n) 0#32).setWidth 32))
        (Scalar.subi (Scalar.extui (Scalar.cmpi CmpIPredicate.sgt 256#32 0#32)) (Scalar.extui (Scalar.cmpi CmpIPredicate.slt 256#32 0#32))))
      (IntOp.cmpi .ne (IntOp.remsi .vector (BitVec.ofNat 32 n) 256#32) 0#32))
      (IntOp.subi (IntOp.divsi .vector (BitVec.ofNat 32 n) 256#32) 1#32) (IntOp.divsi .vector (BitVec.ofNat 32 n) 256#32)

/-- The printed floor division by 256 divides by 256. -/
theorem floor256 {n : ℕ} (h : n < 2048) : floorDiv256 n = BitVec.ofNat 32 (n / 256) := by
  have : ∀ n : Fin 2048, floorDiv256 n.val = BitVec.ofNat 32 (n.val / 256) := by decide +kernel
  exact this ⟨n, h⟩

/-- The divisor of a remainder by 8, as the programs spell it. -/
abbrev eight : BitVec 32 := Scalar.select (Scalar.cmpi CmpIPredicate.eq 8#32 0#32) 1#32 8#32

/-- The remainder by 8 with the divisor's sign, as the programs spell it. -/
abbrev mod8 (n : ℕ) : BitVec 32 :=
  Scalar.select
    (IntOp.andi
      (IntOp.xori (IntOp.cmpi CmpIPredicate.slt (IntOp.remsi ArithUnit.vector (BitVec.ofNat 32 n) eight) 0#32)
        (Scalar.cmpi CmpIPredicate.slt eight 0#32))
      (IntOp.cmpi CmpIPredicate.ne (IntOp.remsi ArithUnit.vector (BitVec.ofNat 32 n) eight) 0#32))
    (IntOp.addi (IntOp.remsi ArithUnit.vector (BitVec.ofNat 32 n) eight) eight)
    (IntOp.remsi ArithUnit.vector (BitVec.ofNat 32 n) eight)

/-- The printed remainder by 8 is the remainder by 8. -/
theorem mod8_eq {n : ℕ} (h : n < 16) : mod8 n = BitVec.ofNat 32 (n % 8) := by
  have : ∀ n : Fin 16, mod8 n.val = BitVec.ofNat 32 (n.val % 8) := by decide +kernel
  exact this ⟨n, h⟩

/-- A number below 64 is its minimum with 63. -/
theorem min_word {n : ℕ} (h : n < 64) : IntOp.minsi (BitVec.ofNat 32 n) 63#32 = BitVec.ofNat 32 n := by
  have : ∀ n : Fin 64, IntOp.minsi (BitVec.ofNat 32 n.val) 63#32 = BitVec.ofNat 32 n.val := by decide +kernel
  exact this ⟨n, h⟩

/-- A bit that is known where another is one. -/
theorem and_bit_of {x : BitVec 1} {p q : Prop} [Decidable p] [Decidable q] (h : q → x = BitVec.ofBool (decide p)) :
    IntOp.andi x (BitVec.ofBool (decide q)) = BitVec.ofBool (decide (p ∧ q)) := by
  by_cases hq : q
  · rw [h hq, and_bit]
  · simp only [hq, and_false, decide_false]
    show x &&& 0#1 = 0#1
    exact BitVec.and_zero

/-- A sum against truth values, one of them true, is that term. -/
theorem pick {ι : Type} [Fintype ι] (q : ι → Prop) [DecidablePred q] (f : ι → EReal) (i : ι) (hq : q i) (hu : ∀ j, q j → j = i) :
    ∑ j, (if q j then (1 : EReal) else 0) * f j = f i := by
  rw [Finset.sum_eq_single i]
  · rw [if_pos hq, one_mul]
  · intro j _ hj
    rw [if_neg (fun h => hj (hu j h)), zero_mul]
  · exact fun h => absurd (Finset.mem_univ _) h

end Cert.Words

end
-- ==== Proof.Scan.lean ====
/-
  The running count of a column: each step adds the column shifted down by the step's width, and eleven steps sum over
  every earlier row.
-/
module

public import proofs.«01_k».proof.Proof.Contents
public import proofs.«01_k».proof.Proof.Tokens
public import proofs.«01_k».proof.Proof.Words
public import Idealize.ShloMosaic.Lib.Pointwise
public import Idealize.ShloMosaic.Lib.Routing.Words
public import Idealize.ShloMosaic.Lib.Pipeline.Value

@[expose] public section

noncomputable section

namespace Cert.KernelIdeal.Run

open Cert.KernelIdeal Cert.KernelIdeal.Gen
open Idealize.ShloMosaic Idealize.ShloMosaic.TcCoe
set_option maxRecDepth 16384

/-- The sum over a window of `w` rows, and the sum over the window before it, are the sum over a window of `2 * w` rows. -/
theorem window_step {M : Type} [AddCommMonoid M] (f : Fin 2048 → M) (w : ℕ) (t : Fin 2048) :
    (∑ j with j.val ≤ t.val ∧ t.val < j.val + w, f j)
      + (if w ≤ t.val then ∑ j : Fin 2048 with j.val ≤ t.val - w ∧ t.val - w < j.val + w, f j else 0)
      = ∑ j with j.val ≤ t.val ∧ t.val < j.val + 2 * w, f j := by
  split_ifs with h
  · rw [← Finset.sum_union]
    · refine Finset.sum_congr ?_ (fun _ _ => rfl)
      ext j
      simp only [Finset.mem_union, Finset.mem_filter, Finset.mem_univ, true_and]
      omega
    · rw [Finset.disjoint_left]
      intro j hj
      simp only [Finset.mem_filter, Finset.mem_univ, true_and] at hj ⊢
      omega
  · rw [add_zero]
    refine Finset.sum_congr ?_ (fun _ _ => rfl)
    ext j
    simp only [Finset.mem_filter, Finset.mem_univ, true_and]
    omega

/-- One step of the running sum over 64 columns. -/
def step64 (n : BitVec 32) (V : FVec Ideal S2048x64 .f32) : FVec Ideal S2048x64 .f32 :=
  addf V (select (cmpi .sge iota64 (broadcast S2048x64 n)) (dynamicRotate 0 n none V rotates_S2048x64_d0)
    (broadcast S2048x64 (Scalar.ofBits .f32 0x00000000#32)))

/-- One step of the running sum over 8 columns. -/
def step8 (n : BitVec 32) (V : FVec Ideal S2048x8 .f32) : FVec Ideal S2048x8 .f32 :=
  addf V (select (cmpi .sge iota8 (broadcast S2048x8 n)) (dynamicRotate 0 n none V rotates_S2048x8_d0)
    (broadcast S2048x8 (Scalar.ofBits .f32 0x00000000#32)))

/-- One step on 64 columns adds the entry `n` rows up, if there is one. -/
theorem step64_at (n : ℕ) (hn : n < 2048) (V : FVec Ideal S2048x64 .f32) (t : Fin 2048) (c : Fin 64) :
    step64 (BitVec.ofNat 32 n) V (ix2 t c) = V (ix2 t c) + if n ≤ t.val then V (ix2 ⟨t.val - n, by omega⟩ c) else 0 := by
  unfold step64
  pointwise
  rw [Words.sge_word (by omega) (by omega), Words.select_bit]
  by_cases h : n ≤ t.val
  · rw [if_pos h, if_pos h]
    refine congrArg (fun s => V (ix2 t c) + V (ix2 s c)) (Fin.ext ?_)
    show (t.val + 2048 - (BitVec.ofNat 32 n).toNat % 2048) % 2048 = t.val - n
    rw [BitVec.toNat_ofNat]
    omega
  · rw [if_neg h, if_neg h]

/-- One step on 8 columns adds the entry `n` rows up, if there is one. -/
theorem step8_at (n : ℕ) (hn : n < 2048) (V : FVec Ideal S2048x8 .f32) (t : Fin 2048) (c : Fin 8) :
    step8 (BitVec.ofNat 32 n) V (ix2 t c) = V (ix2 t c) + if n ≤ t.val then V (ix2 ⟨t.val - n, by omega⟩ c) else 0 := by
  unfold step8
  pointwise
  rw [Words.sge_word (by omega) (by omega), Words.select_bit]
  by_cases h : n ≤ t.val
  · rw [if_pos h, if_pos h]
    refine congrArg (fun s => V (ix2 t c) + V (ix2 s c)) (Fin.ext ?_)
    show (t.val + 2048 - (BitVec.ofNat 32 n).toNat % 2048) % 2048 = t.val - n
    rw [BitVec.toNat_ofNat]
    omega
  · rw [if_neg h, if_neg h]

/-- `V` holds, at every row and column, the sum of `V₀` over the last `w` rows of the column. -/
def Win64 (w : ℕ) (V₀ V : FVec Ideal S2048x64 .f32) : Prop :=
  ∀ (t : Fin 2048) (c : Fin 64), V (ix2 t c) = ∑ j : Fin 2048 with j.val ≤ t.val ∧ t.val < j.val + w, (V₀ (ix2 j c) : EReal)

def Win8 (w : ℕ) (V₀ V : FVec Ideal S2048x8 .f32) : Prop :=
  ∀ (t : Fin 2048) (c : Fin 8), V (ix2 t c) = ∑ j : Fin 2048 with j.val ≤ t.val ∧ t.val < j.val + w, (V₀ (ix2 j c) : EReal)

/-- A window of one row is the row. -/
theorem window_one (f : Fin 2048 → EReal) (t : Fin 2048) : ∑ j : Fin 2048 with j.val ≤ t.val ∧ t.val < j.val + 1, f j = f t := by
  rw [Finset.sum_eq_single t]
  · intro j hj hne
    simp only [Finset.mem_filter, Finset.mem_univ, true_and] at hj
    exact absurd (Fin.ext (by omega)) hne
  · intro h
    exact absurd (Finset.mem_filter.2 ⟨Finset.mem_univ _, le_refl _, Nat.lt_succ_self _⟩) h

/-- Before any step each entry is a sum of one. -/
theorem Win64.one (V : FVec Ideal S2048x64 .f32) : Win64 1 V V := fun t c => (window_one (fun j => V (ix2 j c)) t).symm
/-- Before any step each entry is a sum of one. -/
theorem Win8.one (V : FVec Ideal S2048x8 .f32) : Win8 1 V V := fun t c => (window_one (fun j => V (ix2 j c)) t).symm

/-- A step doubles the number of rows summed, on 64 columns. -/
theorem Win64.step {w : ℕ} (hw : w < 2048) {V₀ V : FVec Ideal S2048x64 .f32} (h : Win64 w V₀ V) :
    Win64 (2 * w) V₀ (step64 (BitVec.ofNat 32 w) V) := by
  intro t c
  rw [step64_at w hw, ← window_step, h t c]
  refine congrArg (_ + ·) (if_congr Iff.rfl ?_ rfl)
  exact h _ c

/-- A step doubles the number of rows summed, on 8 columns. -/
theorem Win8.step {w : ℕ} (hw : w < 2048) {V₀ V : FVec Ideal S2048x8 .f32} (h : Win8 w V₀ V) :
    Win8 (2 * w) V₀ (step8 (BitVec.ofNat 32 w) V) := by
  intro t c
  rw [step8_at w hw, ← window_step, h t c]
  refine congrArg (_ + ·) (if_congr Iff.rfl ?_ rfl)
  exact h _ c

def scan64 (V : FVec Ideal S2048x64 .f32) : FVec Ideal S2048x64 .f32 :=
  step64 1024#32 (step64 512#32 (step64 256#32 (step64 128#32 (step64 64#32 (step64 32#32 (step64 16#32 (step64 8#32
    (step64 4#32 (step64 2#32 (step64 1#32 V))))))))))

def scan8 (V : FVec Ideal S2048x8 .f32) : FVec Ideal S2048x8 .f32 :=
  step8 1024#32 (step8 512#32 (step8 256#32 (step8 128#32 (step8 64#32 (step8 32#32 (step8 16#32 (step8 8#32
    (step8 4#32 (step8 2#32 (step8 1#32 V))))))))))

/-- The last 2048 rows up to one are all rows up to it. -/
theorem window_all (f : Fin 2048 → EReal) (t : Fin 2048) :
    ∑ j : Fin 2048 with j.val ≤ t.val ∧ t.val < j.val + 2048, f j = ∑ j : Fin 2048 with j ≤ t, f j := by
  refine Finset.sum_congr ?_ (fun _ _ => rfl)
  ext j
  simp only [Finset.mem_filter, Finset.mem_univ, true_and, Fin.le_def]
  omega

/-- Eleven steps sum each column over every row up to this one. -/
theorem scan64_at (V : FVec Ideal S2048x64 .f32) (t : Fin 2048) (c : Fin 64) :
    scan64 V (ix2 t c) = ∑ j : Fin 2048 with j ≤ t, (V (ix2 j c) : EReal) :=
  ((((((((((((Win64.one V).step (by decide)).step (by decide)).step (by decide)).step (by decide)).step (by decide)).step
    (by decide)).step (by decide)).step (by decide)).step (by decide)).step (by decide)).step (by decide) t c).trans (window_all _ t)

/-- The same on 8 columns. -/
theorem scan8_at (V : FVec Ideal S2048x8 .f32) (t : Fin 2048) (c : Fin 8) :
    scan8 V (ix2 t c) = ∑ j : Fin 2048 with j ≤ t, (V (ix2 j c) : EReal) :=
  ((((((((((((Win8.one V).step (by decide)).step (by decide)).step (by decide)).step (by decide)).step (by decide)).step
    (by decide)).step (by decide)).step (by decide)).step (by decide)).step (by decide)).step (by decide) t c).trans (window_all _ t)

/-- The rank words are the running counts of the expert columns, less the token itself, read at the token's expert. -/
theorem keepV_eq (e : Vec Ideal S2048x1 .i32) : keepV (F := Ideal) e
    = fptosi 32 (shapeCast S2048x1 (multiReduction .add [1] S2048 (mulf (subf (scan64 (k0_pay3 e)) (k0_pay3 e)) (k0_pay3 e))
        0x00000000#32 reduces_S2048x64_S2048 (.inl rfl) rfl) shapeCasts_S2048_S2048x1) := by
  chain_rfl

/-- The place words are the running counts of the device columns, less the token itself and less those before the token's 256, read at the token's device. -/
theorem posOK_eq (e : Vec Ideal S2048x1 .i32) : posOK (F := Ideal) e
    = fptosi 32 (shapeCast S2048x1 (multiReduction .add [1] S2048 (mulf (shapeCast S2048x8 (subf
        (shapeCast S8x256x8 (subf (scan8 (ownA e)) (ownA e)) shapeCasts_S2048x8_S8x256x8)
        (broadcastTo S8x256x8 (extractStridedSlice S8x1x8 ![0, 0, 0] (shapeCast S8x256x8 (subf (scan8 (ownA e)) (ownA e)) shapeCasts_S2048x8_S8x256x8)
          slices_S8x256x8_o0_0_0_S8x1x8) broadcasts_S8x1x8_S8x256x8)) shapeCasts_S8x256x8_S2048x8) (ownA e))
        0x00000000#32 reduces_S2048x8_S2048 (.inl rfl) rfl) shapeCasts_S2048_S2048x1) := by
  chain_rfl

end Cert.KernelIdeal.Run
end
end
-- ==== Proof.Ranks.lean ====
/-
  The rank of each token at its expert, and the place of each kept token in its bucket, as the programs's words.
-/
module

public import proofs.«01_k».proof.Proof.Contents
public import proofs.«01_k».proof.Proof.Scan
public import Idealize.ShloMosaic.Lib.Pointwise
public import Idealize.ShloMosaic.Lib.Routing.Words
public import Idealize.ShloMosaic.Lib.Pipeline.Value

@[expose] public section

noncomputable section

namespace Cert.KernelIdeal.Run

open Cert.KernelIdeal Cert.KernelIdeal.Gen
open Idealize.ShloMosaic Idealize.ShloMosaic.TcCoe
set_option maxRecDepth 16384

open Cert.Tokens

/-- A count up to a row, less the row itself, counts the rows before. -/
theorem count_before (p : Fin 2048 → Prop) [DecidablePred p] (t : Fin 2048) :
    (∑ j : Fin 2048 with j ≤ t, if p j then (1 : EReal) else 0) - (if p t then (1 : EReal) else 0)
      = (((Finset.univ.filter fun j : Fin 2048 => j < t ∧ p j).card : ℕ) : EReal) := by
  have h : (Finset.univ.filter fun j : Fin 2048 => j ≤ t).filter p
      = if p t then insert t (Finset.univ.filter fun j : Fin 2048 => j < t ∧ p j) else Finset.univ.filter fun j : Fin 2048 => j < t ∧ p j := by
    ext j
    by_cases ht : p t
    · simp only [ht, if_true, Finset.mem_filter, Finset.mem_univ, true_and, Finset.mem_insert, le_iff_eq_or_lt]
      constructor
      · rintro ⟨rfl | h, hp⟩
        · exact Or.inl rfl
        · exact Or.inr ⟨h, hp⟩
      · rintro (rfl | ⟨h, hp⟩)
        · exact ⟨Or.inl rfl, ht⟩
        · exact ⟨Or.inr h, hp⟩
    · simp only [ht, if_false, Finset.mem_filter, Finset.mem_univ, true_and, le_iff_eq_or_lt]
      constructor
      · rintro ⟨rfl | h, hp⟩
        · exact absurd hp ht
        · exact ⟨h, hp⟩
      · exact fun ⟨h, hp⟩ => ⟨Or.inr h, hp⟩
  rw [Words.sum_bits, h]
  by_cases ht : p t
  · rw [if_pos ht, if_pos ht, Finset.card_insert_of_notMem (by simp)]
    rw [show (1 : EReal) = ((1 : ℕ) : EReal) from by simp, Words.nat_sub (by omega), Nat.add_sub_cancel]
  · rw [if_neg ht, if_neg ht, sub_zero]

variable {e : Vec Ideal S2048x1 .i32} {E : Fin 2048 → ℕ} (he : ∀ t, e (ix2 t 0) = BitVec.ofNat 32 (E t)) (hb : ∀ t, E t < 64)
include he hb

/-- The one-hot row of a token has its one at its expert. -/
theorem pay3_at (t : Fin 2048) (c : Fin 64) : (k0_pay3 (F := Ideal) e (ix2 t c) : EReal) = if E t = c.val then 1 else 0 := by
  have h := hb t
  unfold k0_pay3 k0_pay2
  rw [shapeCast_self]
  pointwise
  rw [he, Words.eq_word (by omega) (by omega), Words.sitofp_bit]

/-- The rank column holds the ranks, as it is compared. -/
theorem keepV_at (t : Fin 2048) : keepV (F := Ideal) e (ix2 t 0) = BitVec.ofNat 32 (rank E t) := by
  rw [keepV_eq]
  pointwise
  rw [← Words.fptosi_nat (rank E t) (by have := rank_lt (E := E) t; omega)]
  congr 1
  rw [Finset.sum_eq_single ⟨E t, hb t⟩]
  · rw [scan64_at, pay3_at he hb]
    simp only [pay3_at he hb]
    have h := count_before (fun j => E j = E t) t
    simp only [if_true] at h ⊢
    rw [mul_one]
    exact h
  · intro c _ hc
    rw [pay3_at he hb, if_neg (fun h => hc (Fin.ext h.symm))]
    exact mul_zero _
  · exact fun h => absurd (Finset.mem_univ _) h

/-- The rank column holds the ranks, as it is stored. -/
theorem rankV_at (t : Fin 2048) : rankV (F := Ideal) e (ix2 t 0) = BitVec.ofNat 32 (rank E t) := by
  rw [← keepV_at he hb]
  unfold rankV k0_pay10
  rw [shapeCast_self]
  rfl

/-- A token is kept when its rank is below 25. -/
theorem keepB_at (t : Fin 2048) : keepB (F := Ideal) e (ix2 t 0) = BitVec.ofBool (decide (rank E t < 25)) := by
  have h : keepB (F := Ideal) e (ix2 t 0) = IntOp.cmpi .slt (keepV (F := Ideal) e (ix2 t 0)) 25#32 := rfl
  have hr := rank_lt (E := E) t
  rw [h, keepV_at he hb, Words.slt_word (by omega) (by omega)]

/-- The one-hot row of a kept token has its one at its device; that of a dropped token is zero. -/
theorem ownA_at (t : Fin 2048) (o : Fin 8) :
    (ownA (F := Ideal) e (ix2 t o) : EReal) = if E t / 8 = o.val ∧ rank E t < 25 then 1 else 0 := by
  have h := hb t
  have hk := keepB_at he hb t
  unfold keepB at hk
  unfold ownA k0_pay12 k0_pay2
  rw [shapeCast_self]
  pointwise
  rw [he, hk]
  have hf := Words.floor8 h
  unfold Words.floorDiv8 at hf
  rw [hf, Words.eq_word (by omega) (by omega), Words.and_bit, Words.sitofp_bit]

/-- The kept tokens before `t` that go to the device `o`. -/
def before (E : Fin 2048 → ℕ) (t : Fin 2048) (o : ℕ) : ℕ :=
  (Finset.univ.filter fun j : Fin 2048 => j < t ∧ E j / 8 = o ∧ rank E j < 25).card

/-- The running count for a device, less the token itself, is the number of kept tokens before it. -/
theorem before_at (t : Fin 2048) (o : Fin 8) :
    (scan8 (ownA (F := Ideal) e) (ix2 t o) : EReal) - (ownA (F := Ideal) e (ix2 t o) : EReal) = ((before E t o.val : ℕ) : EReal) := by
  rw [scan8_at]
  simp only [ownA_at he hb]
  exact count_before (fun j => E j / 8 = o.val ∧ rank E j < 25) t

omit he hb in
/-- Less those before the token's 256, they are the place. -/
theorem place_eq (t : Fin 2048) : before E t (E t / 8) - before E ⟨t.val / 256 * 256, by omega⟩ (E t / 8) = place E t := by
  unfold before place ahead
  rw [← Finset.card_sdiff_of_subset]
  · refine congrArg Finset.card ?_
    ext j
    simp only [Finset.mem_sdiff, Finset.mem_filter, Finset.mem_univ, true_and, Fin.lt_def]
    constructor
    · rintro ⟨⟨h1, h2, h3⟩, h4⟩
      exact ⟨h1, by by_contra hh; exact h4 ⟨by omega, h2, h3⟩, h2, h3⟩
    · rintro ⟨h1, h2, h3, h4⟩
      exact ⟨⟨h1, h3, h4⟩, fun h => by omega⟩
  · intro j
    simp only [Finset.mem_filter, Finset.mem_univ, true_and, Fin.lt_def]
    exact fun ⟨h1, h2⟩ => ⟨by omega, h2⟩

omit he hb in
/-- Fewer come before the first token of the 256 than before the token. -/
theorem before_mono (t : Fin 2048) (o : ℕ) : before E ⟨t.val / 256 * 256, by omega⟩ o ≤ before E t o := by
  refine Finset.card_le_card ?_
  intro j
  simp only [Finset.mem_filter, Finset.mem_univ, true_and, Fin.lt_def]
  exact fun ⟨h1, h2⟩ => ⟨by omega, h2⟩

/-- The place column holds the places of the kept tokens, as it is compared. -/
theorem posOK_at (t : Fin 2048) : posOK (F := Ideal) e (ix2 t 0) = BitVec.ofNat 32 (if rank E t < 25 then place E t else 0) := by
  rw [posOK_eq]
  pointwise
  have hp := place_lt (E := E) t
  rw [← Words.fptosi_nat _ (by split_ifs <;> omega)]
  congr 1
  have h := hb t
  rw [Finset.sum_eq_single ⟨E t / 8, by omega⟩]
  · rw [before_at he hb, before_at he hb, Words.nat_sub (before_mono t _), place_eq, ownA_at he hb]
    by_cases hk : rank E t < 25
    · rw [if_pos ⟨rfl, hk⟩, if_pos hk, mul_one]
    · rw [if_neg (fun h => hk h.2), if_neg hk, mul_zero, Nat.cast_zero]
  · intro c _ hc
    rw [ownA_at he hb, if_neg (fun h => hc (Fin.ext h.1.symm))]
    exact mul_zero _
  · exact fun h => absurd (Finset.mem_univ _) h

/-- The place column holds the places of the kept tokens, as it is stored. -/
theorem posV_at (t : Fin 2048) : posV (F := Ideal) e (ix2 t 0) = BitVec.ofNat 32 (if rank E t < 25 then place E t else 0) := by
  rw [← posOK_at he hb]
  unfold posV k0_pay17
  rw [shapeCast_self]
  rfl

end Cert.KernelIdeal.Run
end
end
-- ==== Proof.Products.lean ====
/-
  What one device multiplies: the rows of its tokens, packed by expert and rank, and their products.
-/
module

public import proofs.«01_k».proof.Proof.Contents
public import proofs.«01_k».proof.Proof.Ranks
public import Idealize.ShloMosaic.Lib.Pointwise
public import Idealize.ShloMosaic.Lib.Routing.Words
public import Idealize.ShloMosaic.Lib.Pipeline.Value

@[expose] public section

noncomputable section

namespace Cert.KernelIdeal.Run

open Cert.KernelIdeal Cert.KernelIdeal.Gen
open Idealize.ShloMosaic Idealize.ShloMosaic.TcCoe
set_option maxRecDepth 16384

open Cert.Tokens

/-- The device's place is its number. -/
theorem myW_eq (c : Dev nD) : myW c = BitVec.ofNat 32 c.val := by revert c; decide

variable {e : Vec Ideal S2048x1 .i32} {E : Fin 2048 → ℕ} (he : ∀ t, e (ix2 t 0) = BitVec.ofNat 32 (E t)) (hb : ∀ t, E t < 64)

/-- Whether the device owns an expert. -/
theorem mine_word {n : ℕ} (h : n < 64) (c : Dev nD) :
    IntOp.andi (IntOp.cmpi .sge (BitVec.ofNat 32 n - BitVec.ofNat 32 c.val * 8#32) 0#32)
      (IntOp.cmpi .slt (BitVec.ofNat 32 n - BitVec.ofNat 32 c.val * 8#32) 8#32) = BitVec.ofBool (decide (n / 8 = c.val)) := by
  have : ∀ (n : Fin 64) (c : Fin 8), IntOp.andi (IntOp.cmpi .sge (BitVec.ofNat 32 n.val - BitVec.ofNat 32 c.val * 8#32) 0#32)
      (IntOp.cmpi .slt (BitVec.ofNat 32 n.val - BitVec.ofNat 32 c.val * 8#32) 8#32) = BitVec.ofBool (decide (n.val / 8 = c.val)) := by
    decide +kernel
  exact this ⟨n, h⟩ c

/-- The packed row of expert `n` and rank 0, on the device that owns it. -/
theorem row_word {n : ℕ} (h : n < 64) (c : Dev nD) (hc : n / 8 = c.val) :
    (BitVec.ofNat 32 n - BitVec.ofNat 32 c.val * 8#32) * 32#32 = BitVec.ofNat 32 (n % 8 * 32) := by
  have : ∀ (n : Fin 64) (c : Fin 8), n.val / 8 = c.val →
      (BitVec.ofNat 32 n.val - BitVec.ofNat 32 c.val * 8#32) * 32#32 = BitVec.ofNat 32 (n.val % 8 * 32) := by
    decide +kernel
  exact this ⟨n, h⟩ c hc

include he hb

/-- A token's expert, counted from the device's first. -/
theorem relV_at (c : Dev nD) (t : Fin 2048) : relV (F := Ideal) c e (ix2 t 0) = BitVec.ofNat 32 (E t) - BitVec.ofNat 32 c.val * 8#32 := by
  unfold relV k0_pay18 k0_pay2
  rw [shapeCast_self, myW_eq]
  pointwise
  rw [he]
  rfl

/-- The mark of the tokens whose expert is the device's. -/
theorem mine_at (c : Dev nD) (t : Fin 2048) :
    k0_pay19 (relV (F := Ideal) c e) (ix2 t 0) = BitVec.ofBool (decide (E t / 8 = c.val)) := by
  unfold k0_pay19
  pointwise
  rw [relV_at he hb, mine_word (hb t)]

/-- Row `k` of the packed tokens takes the token of its expert and rank. -/
theorem pack_at (c : Dev nD) (t : Fin 2048) (k : Fin 256) :
    (k0_pay20 (F := Ideal) (keepV (F := Ideal) e) (relV (F := Ideal) c e) (ix2 t k) : EReal)
      = if (k.val = E t % 8 * 32 + rank E t ∧ E t / 8 = c.val) ∧ rank E t < 32 then 1 else 0 := by
  have hm := mine_at he hb c t
  have hr := rank_lt (E := E) t
  have hE := hb t
  unfold k0_pay20
  pointwise
  rw [hm, relV_at he hb, keepV_at he hb, Words.slt_word (by omega) (by omega),
    Words.and_bit_of (p := k.val = E t % 8 * 32 + rank E t) (q := E t / 8 = c.val), Words.and_bit, Words.sitofp_bit]
  intro hc
  show IntOp.cmpi .eq _ ((BitVec.ofNat 32 (E t) - BitVec.ofNat 32 c.val * 8#32) * 32#32 + BitVec.ofNat 32 (rank E t)) = _
  rw [row_word hE c hc, ← BitVec.ofNat_add, Words.eq_word (by omega) (by omega)]

omit he hb in
/-- An entry of one expert's matrix. -/
theorem slab_at (W : Vec Ideal S8x512x1024 .f32) (l : Fin 8) (d : Fin 512) (h : Fin 1024) : slab W l (ix3 0 d h) = W (ix3 l d h) := by
  refine congrArg W (funext fun a => Fin.ext ?_)
  match a with
  | 0 => show l.val + 1 * 0 = l.val; omega
  | 1 => show 0 + 1 * d.val = d.val; omega
  | 2 => show 0 + 1 * h.val = h.val; omega

/-- 32 rows of the packed tokens times one expert's matrix. -/
def prodBlk (l : Fin 8) (hs : S256x512.Slices ![32 * l.val, 0] S32x512) (A : FVec Ideal S256x512 .f32) (B : Vec Ideal S1x512x1024 .f32) :
    FVec Ideal S32x1024 .f32 :=
  shapeCast S32x1024 (matmul dot_S32x512_S512x1024_S32x1024_1_0_0_1_n_n none (extractStridedSlice S32x512 ![32 * l.val, 0] A hs)
    (shapeCast S512x1024 B shapeCasts_S1x512x1024_S512x1024 : FVec Ideal S512x1024 .f32) (constant S32x1024 .f32 0x00000000#32)) shapeCasts_S32x1024_S32x1024

omit he hb in
/-- The product of an expert's 32 rows with its matrix, entry by entry. -/
theorem prodBlk_at (l : Fin 8) (hs : S256x512.Slices ![32 * l.val, 0] S32x512) (A : FVec Ideal S256x512 .f32) (W : Vec Ideal S8x512x1024 .f32)
    (i : Fin 32) (h : Fin 1024) : (prodBlk l hs A (slab W l) (ix2 i h) : EReal)
      = ∑ d : Fin 512, (A (ix2 ⟨32 * l.val + i.val, by omega⟩ d) : EReal) * (W (ix3 l d h) : EReal) := by
  unfold prodBlk
  rw [shapeCast_self]
  pointwise
  refine Finset.sum_congr rfl fun d _ => ?_
  rw [slab_at]

omit he hb in
/-- The products of one expert's rows. -/
theorem chunkBlk_at (c : Dev nD) (x : Vec Ideal S2048x512 .f32) (W : Vec Ideal S8x512x1024 .f32) (l : Fin 8) (i : Fin 32) (h : Fin 1024) :
    chunkBlk c e x W l (ix2 i h)
      = ∑ d : Fin 512, (k0_pay21 (keepV (F := Ideal) e) (relV (F := Ideal) c e) x (ix2 ⟨32 * l.val + i.val, by omega⟩ d) : EReal) * (W (ix3 l d h) : EReal) :=
  match l with
  | 0 => prodBlk_at 0 slices_S256x512_o0_0_S32x512 (k0_pay21 (keepV (F := Ideal) e) (relV (F := Ideal) c e) x) W i h
  | 1 => prodBlk_at 1 slices_S256x512_o32_0_S32x512 (k0_pay21 (keepV (F := Ideal) e) (relV (F := Ideal) c e) x) W i h
  | 2 => prodBlk_at 2 slices_S256x512_o64_0_S32x512 (k0_pay21 (keepV (F := Ideal) e) (relV (F := Ideal) c e) x) W i h
  | 3 => prodBlk_at 3 slices_S256x512_o96_0_S32x512 (k0_pay21 (keepV (F := Ideal) e) (relV (F := Ideal) c e) x) W i h
  | 4 => prodBlk_at 4 slices_S256x512_o128_0_S32x512 (k0_pay21 (keepV (F := Ideal) e) (relV (F := Ideal) c e) x) W i h
  | 5 => prodBlk_at 5 slices_S256x512_o160_0_S32x512 (k0_pay21 (keepV (F := Ideal) e) (relV (F := Ideal) c e) x) W i h
  | 6 => prodBlk_at 6 slices_S256x512_o192_0_S32x512 (k0_pay21 (keepV (F := Ideal) e) (relV (F := Ideal) c e) x) W i h
  | 7 => prodBlk_at 7 slices_S256x512_o224_0_S32x512 (k0_pay21 (keepV (F := Ideal) e) (relV (F := Ideal) c e) x) W i h

omit he hb in
/-- The chunk, entry by entry: packed rows times the matrix of their expert. -/
theorem chunkV_at (c : Dev nD) (x : Vec Ideal S2048x512 .f32) (W : Vec Ideal S8x512x1024 .f32) (l : Fin 8) (i : Fin 32) (h : Fin 1024) :
    chunkV c e x W (ix2 ⟨32 * l.val + i.val, by omega⟩ h)
      = ∑ d : Fin 512, (k0_pay21 (keepV (F := Ideal) e) (relV (F := Ideal) c e) x (ix2 ⟨32 * l.val + i.val, by omega⟩ d) : EReal) * (W (ix3 l d h) : EReal) := by
  have h1 : rowBlk (ix2 (⟨32 * l.val + i.val, by omega⟩ : Fin 256) h) = l := Fin.ext (by show (32 * l.val + i.val) / 32 = l.val; omega)
  have h2 : rowIn (ix2 (⟨32 * l.val + i.val, by omega⟩ : Fin 256) h) = ix2 i h := by
    funext a
    match a with
    | 0 => exact Fin.ext (by show (32 * l.val + i.val) % 32 = i.val; omega)
    | 1 => rfl
  rw [← chunkBlk_at]
  unfold chunkV
  rw [h1, h2]

/-- The packed row of a token this device owns is the token. -/
theorem packed_at (c : Dev nD) (x : Vec Ideal S2048x512 .f32) (t : Fin 2048) (hc : E t / 8 = c.val) (hr : rank E t < 32) (d : Fin 512)
    (k : Fin 256) (hk : k.val = E t % 8 * 32 + rank E t) :
    k0_pay21 (keepV (F := Ideal) e) (relV (F := Ideal) c e) x (ix2 k d) = x (ix2 t d) := by
  unfold k0_pay21
  rw [shapeCast_self]
  pointwise
  simp only [pack_at he hb]
  refine Words.pick _ (fun t => (x (ix2 t d) : EReal)) t ⟨⟨hk, hc⟩, hr⟩ ?_
  rintro s ⟨⟨h1, h2⟩, h3⟩
  exact eq_of_rank (E := E) (by omega) (by omega)

/-- The product row of a token this device owns. -/
theorem chunk_row (c : Dev nD) (x : Vec Ideal S2048x512 .f32) (W : Vec Ideal S8x512x1024 .f32) (t : Fin 2048) (hc : E t / 8 = c.val)
    (hr : rank E t < 32) (h : Fin 1024) (k : Fin 256) (hk : k.val = E t % 8 * 32 + rank E t) :
    chunkV c e x W (ix2 k h) = ∑ d : Fin 512, (x (ix2 t d) : EReal) * (W (ix3 ⟨E t % 8, Nat.mod_lt _ (by decide)⟩ d h) : EReal) := by
  have hk' : k = ⟨32 * (E t % 8) + rank E t, by omega⟩ := Fin.ext (by rw [hk]; show _ = 32 * (E t % 8) + rank E t; omega)
  rw [hk']
  refine (chunkV_at c x W ⟨E t % 8, Nat.mod_lt _ (by decide)⟩ ⟨rank E t, hr⟩ h).trans ?_
  refine Finset.sum_congr rfl fun d _ => ?_
  rw [packed_at he hb c x t hc hr d _ (by show 32 * (E t % 8) + rank E t = _; omega)]

end Cert.KernelIdeal.Run
end
end
-- ==== Proof.Sent.lean ====
/-
  The rows a device sends: each of its kept tokens' products, at the slot of the token's device and the token's place.
-/
module

public import proofs.«01_k».proof.Proof.Contents
public import proofs.«01_k».proof.Proof.Products
public import Idealize.ShloMosaic.Lib.Pointwise
public import Idealize.ShloMosaic.Lib.Routing.Words
public import Idealize.ShloMosaic.Lib.Pipeline.Value

@[expose] public section

noncomputable section

namespace Cert.KernelIdeal.Run

open Cert.KernelIdeal Cert.KernelIdeal.Gen
open Idealize.ShloMosaic Idealize.ShloMosaic.TcCoe
set_option maxRecDepth 16384

open Cert.Tokens

variable {e : Vec Ideal S2048x1 .i32} {E : Fin 2048 → ℕ} (he : ∀ t, e (ix2 t 0) = BitVec.ofNat 32 (E t)) (hb : ∀ t, E t < 64)

/-- How many places after the device `c` the tokens around `t` have their device. -/
theorem ahead_word (c : Dev nD) (t : Fin 2048) : k0_pay33 (myW c) (ix2 t 0) = BitVec.ofNat 32 (t.val / 256 + 8 - c.val) := by
  unfold k0_pay33
  rw [myW_eq]
  pointwise
  have hf := Words.floor256 t.isLt
  unfold Words.floorDiv256 at hf
  rw [hf]
  have : ∀ (a c : Fin 8), BitVec.ofNat 32 a.val - BitVec.ofNat 32 c.val + 8#32 = BitVec.ofNat 32 (a.val + 8 - c.val) := by decide +kernel
  exact this ⟨t.val / 256, by omega⟩ c

include he hb

/-- The row sent for a kept token this device owns is the token's row times its expert's matrix. -/
theorem sent_row (c : Dev nD) (x : Vec Ideal S2048x512 .f32) (W : Vec Ideal S8x512x1024 .f32) (t : Fin 2048) (hc : E t / 8 = c.val)
    (hk : rank E t < 25) (hp : place E t < 64) (s : Fin 8) (hs : s.val = (t.val / 256 + 8 - c.val) % 8) (p : Fin 64)
    (hpp : p.val = place E t) (h : Fin 1024) :
    (sendV c e x W (ix3 s p h) : EReal)
      = ∑ d : Fin 512, (x (ix2 t d) : EReal) * (W (ix3 ⟨E t % 8, Nat.mod_lt _ (by decide)⟩ d h) : EReal) := by
  have hcl : c.val < 8 := c.isLt
  have hE := hb t
  obtain ⟨P, hP⟩ : ∃ P : Fin 2048 → ℕ, ∀ j, P j = if rank E j < 25 then place E j else 0 := ⟨_, fun _ => rfl⟩
  have hlt : ∀ j, P j < 2048 := fun j => by have := place_lt (E := E) j; rw [hP]; split_ifs <;> omega
  have hpos : ∀ j, posOK (F := Ideal) e (ix2 j 0) = BitVec.ofNat 32 (P j) := fun j => by rw [posOK_at he hb, hP]
  have hm : ∀ j : Fin 2048, Words.mod8 (j.val / 256 + 8 - c.val) = BitVec.ofNat 32 ((j.val / 256 + 8 - c.val) % 8) :=
    fun j => Words.mod8_eq (by omega)
  have hslt : ∀ j, IntOp.cmpi .slt (BitVec.ofNat 32 (P j)) 64#32 = BitVec.ofBool (decide (P j < 64)) :=
    fun j => Words.slt_word (by have := hlt j; omega) (by omega)
  have heq : ∀ j : Fin 2048, IntOp.cmpi .eq (BitVec.ofNat 32 (s.val * 64 + p.val))
      (IntOp.addi (IntOp.muli (BitVec.ofNat 32 ((j.val / 256 + 8 - c.val) % 8)) 64#32) (BitVec.ofNat 32 (P j)))
      = BitVec.ofBool (decide (s.val * 64 + p.val = (j.val / 256 + 8 - c.val) % 8 * 64 + P j)) := fun j => by
    rw [show IntOp.addi (IntOp.muli (BitVec.ofNat 32 ((j.val / 256 + 8 - c.val) % 8)) 64#32) (BitVec.ofNat 32 (P j))
        = BitVec.ofNat 32 ((j.val / 256 + 8 - c.val) % 8 * 64 + P j) from by
      rw [BitVec.ofNat_add, BitVec.ofNat_mul]; rfl]
    have := hlt j
    exact Words.eq_word (by omega) (by omega)
  have hin : ∀ k : Fin 256, ∑ j : Fin 2048,
      (if s.val * 64 + p.val = (j.val / 256 + 8 - c.val) % 8 * 64 + P j ∧ (rank E j < 25 ∧ E j / 8 = c.val) ∧ P j < 64 then (1 : EReal) else 0)
        * (if (k.val = E j % 8 * 32 + rank E j ∧ E j / 8 = c.val) ∧ rank E j < 32 then (1 : EReal) else 0)
      = if (k.val = E t % 8 * 32 + rank E t ∧ E t / 8 = c.val) ∧ rank E t < 32 then (1 : EReal) else 0 := fun k => by
    refine Words.pick _ _ t ⟨?_, ⟨hk, hc⟩, ?_⟩ ?_
    · rw [hP, if_pos hk, hs, hpp]
    · rw [hP, if_pos hk]; exact hp
    · rintro j ⟨h1, ⟨h2, h3⟩, h4⟩
      rw [hP, if_pos h2] at h1 h4
      have := p.isLt
      exact eq_of_place (E := E) (by omega) (by omega) h2 hk (by omega)
  unfold Words.mod8 Words.eight at hm
  unfold sendV k0_pay35 k0_pay34
  pointwise
  simp only [ahead_word, hpos, keepB_at he hb, mine_at he hb, pack_at he hb, hm, hslt, heq, Words.and_bit, Words.sitofp_bit, hin]
  refine (Words.pick _ _ (⟨E t % 8 * 32 + rank E t, by omega⟩ : Fin 256) ⟨⟨rfl, hc⟩, by omega⟩ ?_).trans ?_
  · rintro k ⟨⟨h1, _⟩, _⟩
    exact Fin.ext h1
  · exact chunk_row he hb c x W t hc (by omega) h _ rfl

omit he hb in
/-- The rows the device keeps for itself are slot 0 of those it sends. -/
theorem self_row (c : Dev nD) (x : Vec Ideal S2048x512 .f32) (W : Vec Ideal S8x512x1024 .f32) (p : Fin 64) (h : Fin 1024) :
    selfV c e x W (ix3 0 p h) = sendV c e x W (ix3 0 p h) := by
  unfold selfV sendV k0_pay35 k0_pay36
  generalize hq : k0_pay34 (F := Ideal) _ _ _ _ _ _ _ _ = q
  pointwise

end Cert.KernelIdeal.Run
end
end
-- ==== Proof.Out.lean ====
/-
  The result on one device: each kept token's row, out of the rows received, and zero for a token not kept.
-/
module

public import proofs.«01_k».proof.Proof.Contents
public import proofs.«01_k».proof.Proof.Sent
public import Idealize.ShloMosaic.Lib.Pointwise
public import Idealize.ShloMosaic.Lib.Routing.Words
public import Idealize.ShloMosaic.Lib.Pipeline.Value

@[expose] public section

noncomputable section

namespace Cert.KernelIdeal.Run

open Cert.KernelIdeal Cert.KernelIdeal.Gen
open Idealize.ShloMosaic Idealize.ShloMosaic.TcCoe
set_option maxRecDepth 16384

open Cert.Tokens

/-- The first of the tokens whose results a device makes. -/
theorem own_at {e : EltTy} (c : Dev nD) (V : S2048x1.Idx → Elt Ideal e) (i : Fin 256) :
    V ((ownRect c).toLoadRect.idx (ix2 i 0)) = V (ix2 ⟨256 * c.val + i.val, by have : c.val < 8 := c.isLt; omega⟩ 0) := by
  have ho : k0_off1 c 0 = 256 * c.val := by revert c; decide
  have ho' : k0_off1 c 1 = 0 := by revert c; decide
  refine congrArg V (funext fun a => Fin.ext ?_)
  match a with
  | 0 => show k0_off1 c 0 + 1 * i.val = 256 * c.val + i.val; omega
  | 1 => show k0_off1 c 1 + 1 * 0 = 0; omega

variable (m : (ℓ : Loc nD τ sig) → Buf (Elt Ideal) ℓ)

/-- Slot `s` of what a device receives is slot `s` of what the device `s` places back sends. -/
theorem recv_at (c s : Dev nD) (p : Fin 64) (h : Fin 1024) :
    recvAt m c (ix3 s p h) = sendAt m ⟨(c.val + 8 - s.val) % 8, Nat.mod_lt _ (by decide)⟩ (ix3 s p h) := by
  have hc : c.val < 8 := c.isLt
  have hs : s.val < 8 := s.isLt
  unfold recvAt
  by_cases h0 : s.val = 0
  · obtain rfl : s = 0 := Fin.ext h0
    refine (dif_pos (show (ix3 (0 : Dev nD) p h 0).val = 0 from rfl)).trans ?_
    rw [show (⟨(c.val + 8 - (0 : Dev nD).val) % 8, Nat.mod_lt _ (by decide)⟩ : Dev nD) = c from Fin.ext (by show (c.val + 8 - 0) % 8 = c.val; omega)]
    exact self_row c _ _ p h
  · refine (dif_neg (show ¬ (ix3 s p h 0).val = 0 from h0)).trans ?_
    refine congrArg (fun q => sendAt m q (ix3 s p h)) (Fin.ext ?_)
    show (c.val + (7 - (s.val - 1 + 1)) + 1) % 8 = (c.val + 8 - s.val) % 8
    omega

/-- How many places before the device `c` the token's device is, before the remainder's sign is fixed. -/
theorem behind_word (c : Dev nD) (v : Vec Ideal S256x1 .i32) (i : Fin 256) {n : ℕ} (hv : v (ix2 i 0) = BitVec.ofNat 32 n) (hn : n < 64) :
    k0_pay37 (F := Ideal) (myW c) v (ix2 i 0) = IntOp.remsi .vector (BitVec.ofNat 32 (c.val + 8 - n / 8)) Words.eight := by
  unfold k0_pay37
  rw [shapeCast_self, myW_eq]
  pointwise
  have hf := Words.floor8 hn
  unfold Words.floorDiv8 at hf
  rw [hv, hf]
  have : ∀ (c o : Fin 8), BitVec.ofNat 32 c.val - BitVec.ofNat 32 o.val + 8#32 = BitVec.ofNat 32 (c.val + 8 - o.val) := by decide +kernel
  exact congrArg (fun w => IntOp.remsi .vector w Words.eight) (this c ⟨n / 8, by omega⟩)

/-- A device's eight experts are among the 64. -/
theorem expert_lt (c : Dev nD) (l : Fin 8) : 8 * c.val + l.val < 64 := by
  have : c.val < 8 := c.isLt
  omega

variable {E : Fin 2048 → ℕ} {X : Fin 2048 → Fin 512 → EReal} {Y : Fin 64 → Fin 512 → Fin 1024 → EReal}
  (he : ∀ c t, eAt m c (ix2 t 0) = BitVec.ofNat 32 (E t)) (hb : ∀ t, E t < 64)
  (hx : ∀ c t d, xAt m c (ix2 t d) = X t d)
  (hw : ∀ (c : Dev nD) (l : Fin 8) d h, wAt m c (ix3 l d h) = Y ⟨8 * c.val + l.val, expert_lt c l⟩ d h)

include he hb hx hw

/-- The result row of a token: its row times its expert's matrix where the token is kept, else zero. -/
theorem out_at (c : Dev nD) (i : Fin 256) (t : Fin 2048) (ht : t.val = 256 * c.val + i.val) (hp : rank E t < 25 → place E t < 64) (h : Fin 1024) :
    (outAt m c (ix2 i h) : EReal) = if rank E t < 25 then ∑ d : Fin 512, X t d * Y ⟨E t, hb t⟩ d h else 0 := by
  have hcl : c.val < 8 := c.isLt
  have hE := hb t
  have hr := rank_lt (E := E) t
  have ht' : (⟨256 * c.val + i.val, by omega⟩ : Fin 2048) = t := Fin.ext ht.symm
  have hrank : View.readAt (Elt Ideal) (View.whole cc0_scratch3) (ownRect c).toLoadRect (rankV (F := Ideal) (eAt m c)) (ix2 i 0)
      = BitVec.ofNat 32 (rank E t) := by
    rw [← rankV_at (he c) hb, ← ht']; exact own_at (e := .i32) c _ i
  obtain ⟨P, hP⟩ : ∃ P : ℕ, P = if rank E t < 25 then place E t else 0 := ⟨_, rfl⟩
  have hlt : P < 2048 := by have := place_lt (E := E) t; rw [hP]; split_ifs <;> omega
  have hpos : View.readAt (Elt Ideal) (View.whole cc0_scratch4) (ownRect c).toLoadRect (posV (F := Ideal) (eAt m c)) (ix2 i 0)
      = BitVec.ofNat 32 P := by
    rw [hP, ← posV_at (he c) hb, ← ht']; exact own_at (e := .i32) c _ i
  have hev : View.readAt (Elt Ideal) (View.whole cc0_stg0_0) (ownRect c).toLoadRect (eAt m c) (ix2 i 0) = BitVec.ofNat 32 (E t) := by
    rw [← he c, ← ht']; exact own_at (e := .i32) c _ i
  have hbw := behind_word c _ i hev hE
  have hm := Words.mod8_eq (n := c.val + 8 - E t / 8) (by omega)
  unfold Words.mod8 Words.eight at hm
  unfold Words.eight at hbw
  have hbit : ∀ r : Fin 512, IntOp.andi (IntOp.cmpi .eq (BitVec.ofNat 32 r.val)
        (IntOp.addi (IntOp.muli (BitVec.ofNat 32 ((c.val + 8 - E t / 8) % 8)) 64#32) (IntOp.minsi (BitVec.ofNat 32 P) 63#32)))
        (BitVec.ofBool (decide (rank E t < 25 ∧ P < 64)))
      = BitVec.ofBool (decide (r.val = (c.val + 8 - E t / 8) % 8 * 64 + P ∧ rank E t < 25 ∧ P < 64)) := fun r => by
    refine Words.and_bit_of fun hq => ?_
    rw [Words.min_word hq.2]
    rw [show IntOp.addi (IntOp.muli (BitVec.ofNat 32 ((c.val + 8 - E t / 8) % 8)) 64#32) (BitVec.ofNat 32 P)
        = BitVec.ofNat 32 ((c.val + 8 - E t / 8) % 8 * 64 + P) from by
      rw [BitVec.ofNat_add, BitVec.ofNat_mul]; rfl]
    exact Words.eq_word (by omega) (by omega)
  unfold outAt k0_pay1 k0_pay39 k0_pay38
  pointwise
  rw [hrank, hpos, hbw, hm, Words.slt_word (by omega) (by omega), Words.slt_word (by omega) (by omega), Words.and_bit]
  simp only [hbit, Words.sitofp_bit]
  by_cases hk : rank E t < 25
  · rw [if_pos hk] at hP ⊢
    have hpl := hp hk
    subst hP
    refine (Words.pick _ _ (⟨(c.val + 8 - E t / 8) % 8 * 64 + place E t, by omega⟩ : Fin 512) ⟨rfl, hk, hpl⟩ ?_).trans ?_
    · rintro r ⟨h1, _⟩
      exact Fin.ext h1
    · have h1 : ((c.val + 8 - E t / 8) % 8 * 64 + place E t) / 64 = (c.val + 8 - E t / 8) % 8 := by omega
      have h2 : ((c.val + 8 - E t / 8) % 8 * 64 + place E t) % 64 = place E t := by omega
      refine (recv_at m c _ _ h).trans ?_
      have hq : E t / 8 = (c.val + 8 - ((c.val + 8 - E t / 8) % 8 * 64 + place E t) / 64) % 8 := by omega
      refine (sent_row (he _) hb _ _ _ t hq hk hpl _ ?_ _ h2 h).trans ?_
      · show ((c.val + 8 - E t / 8) % 8 * 64 + place E t) / 64 = (t.val / 256 + 8 - (c.val + 8 - ((c.val + 8 - E t / 8) % 8 * 64 + place E t) / 64) % 8) % 8
        omega
      · refine Finset.sum_congr rfl fun d _ => ?_
        rw [hx, hw]
        refine congrArg (fun q => X t d * Y q d h) (Fin.ext ?_)
        show 8 * ((c.val + 8 - ((c.val + 8 - E t / 8) % 8 * 64 + place E t) / 64) % 8) + E t % 8 = E t
        omega
  · rw [if_neg hk]
    change (_ : EReal) = 0
    refine Finset.sum_eq_zero fun r _ => ?_
    rw [if_neg (fun hh => hk hh.2.1)]
    exact zero_mul _

end Cert.KernelIdeal.Run
end
end
-- ==== Proof.Routed.lean ====
/-
  The precondition, read: every token names an expert, and a kept token's place is below 64.
-/
module

public import proofs.«01_k».proof.Pre_routed_KernelIdeal
public import proofs.«01_k».proof.Pre_routed_ReferenceIdeal
public import proofs.«01_k».proof.Proof.Tokens
public import proofs.«01_k».proof.Proof.Words
public import Idealize.ShloMosaic.Lib.Pointwise
public import Idealize.ShloMosaic.Lib.StableHlo.Predicate
public import Idealize.ShloMosaic.Lib.Pipeline.Value

@[expose] public section

noncomputable section

namespace Cert

open Idealize.ShloMosaic

set_option maxRecDepth 16384

/-- The side conditions of the precondition's text, on the kernel's arguments. -/
instance Pre_routed_KernelIdeal.facts : Pre_routed_KernelIdeal.Facts :=
  ⟨by decide, by decide, by decide, by decide, by decide, by decide, by decide, by decide, by decide⟩

/-- The side conditions of the precondition's text, on the reference's arguments. -/
instance Pre_routed_ReferenceIdeal.facts : Pre_routed_ReferenceIdeal.Facts :=
  ⟨by decide, by decide, by decide, by decide, by decide, by decide, by decide, by decide, by decide⟩

/-- The sum of a mask's bits along its second axis is the number of bits set. -/
theorem count_word {n k : Nat} (hk : k < 2 ^ 32) (mask : IVec ⟨2, ![n, k]⟩ 1) (hw : 1 < 32)
    (h : (⟨2, ![n, k]⟩ : Shape).ReducesTo [1] ⟨1, ![n]⟩) {u : Shape} (hu : 0 < u.numel) (t : Fin n)
    (p : Fin k → Prop) [DecidablePred p] (hp : ∀ j, mask (ix2 t j) = BitVec.ofBool (decide (p j))) :
    Host.reduce IntOp.addi (extui 32 mask hw) (constantI u 32 0#32) h hu (ix1 t)
      = BitVec.ofNat 32 (Finset.univ.filter p).card := by
  have hc : (Finset.univ.filter fun q : Fin k => mask (StableHlo.Predicate.ij ((ix1 t) 0) q) = 1#1) = Finset.univ.filter p := by
    refine Finset.filter_congr fun j _ => ?_
    have hj : mask (StableHlo.Predicate.ij ((ix1 t) 0) j) = BitVec.ofBool (decide (p j)) := hp j
    rw [hj]
    by_cases h : p j <;> simp [h]
  have h1 := StableHlo.Predicate.toNat_reduce_count_cols hk mask hw h hu (ix1 t)
  rw [hc] at h1
  rw [← h1, BitVec.ofNat_toNat, BitVec.setWidth_eq]

namespace Pre_routed_KernelIdeal

open Facts Cert.Tokens

/-- The route column as a row. -/
def col (e : IVec S2048x1 32) : IVec S2048 32 := shapeCast S2048 e shapeCasts_S2048x1_S2048

def asRow (v : IVec S2048 32) : IVec S2048x2048 32 :=
  broadcastInDim S2048x2048 ![0, 1] bcast_S1x2048_S2048x2048_0_1 (broadcastInDim S1x2048 ![1] bcast_S2048_S1x2048_1 v)
def asCol (v : IVec S2048 32) : IVec S2048x2048 32 :=
  broadcastInDim S2048x2048 ![0, 1] bcast_S2048x1_S2048x2048_0_1 (broadcastInDim S2048x1 ![0] bcast_S2048_S2048x1_0 v)
def same (v : IVec S2048 32) : IVec S2048x2048 1 := cmpi .eq (asRow v) (asCol v)
def earlier : IVec S2048x2048 1 := cmpi .slt (asRow (iotaInDim S2048 32 0)) (asCol (iotaInDim S2048 32 0))
def count (k : IVec S2048x2048 1) : IVec S2048 32 :=
  Host.reduce IntOp.addi (extui 32 k natLt_1_32) (constantI S_ 32 0#32) reducesTo_S2048x2048_S2048_d1 h_S_
def all (b : BitVec 32) : IVec S2048 32 := broadcastInDim S2048 ![] bcast_S_S2048 (constantI S_ 32 b)
def ranks (v : IVec S2048 32) : IVec S2048 32 := count (andi (same v) earlier)
def keep (v : IVec S2048 32) : IVec S2048 1 := cmpi .slt (ranks v) (all 25#32)
def loadMask (v : IVec S2048 32) : IVec S2048x2048 1 :=
  andi (andi (andi earlier (same (Host.divsi (iotaInDim S2048 32 0) (all 256#32)))) (same (Host.divsi v (all 8#32))))
    (broadcastInDim S2048x2048 ![0, 1] bcast_S1x2048_S2048x2048_0_1 (broadcastInDim S1x2048 ![1] bcast_S2048_S1x2048_1 (keep v)))
def load (v : IVec S2048 32) : IVec S2048 32 := count (loadMask v)

/-- The precondition's text. -/
theorem fn_eq (x : FVec Ideal S2048x512 .f32) (r : FVec Ideal S512x64 .f32) (e : IVec S2048x1 32) (w : FVec Ideal S8x512x1024 .f32) :
    fn (F := Ideal) x r e w = andi (andi (cmpi .sge (col e) (all 0#32)) (cmpi .slt (col e) (all 64#32)))
      (ori (noti (keep (col e))) (cmpi .slt (load (col e)) (all 64#32))) := by
  chain_rfl

section
variable {v : IVec S2048 32} {E : Fin 2048 → ℕ} (hv : ∀ t, v (ix1 t) = BitVec.ofNat 32 (E t)) (hb : ∀ t, E t < 64)

/-- The mark of equal entries. -/
theorem same_at {u : IVec S2048 32} {G : Fin 2048 → ℕ} (hu : ∀ t, u (ix1 t) = BitVec.ofNat 32 (G t)) (hG : ∀ t, G t < 2 ^ 31) (t j : Fin 2048) :
    same u (ix2 t j) = BitVec.ofBool (decide (G j = G t)) := by
  unfold same asRow asCol
  pointwise
  rw [hu, hu, Words.eq_word (by have := hG j; omega) (by have := hG t; omega)]

/-- The mark of earlier tokens. -/
theorem earlier_at (t j : Fin 2048) : earlier (ix2 t j) = BitVec.ofBool (decide (j.val < t.val)) := by
  unfold earlier asRow asCol
  pointwise
  rw [Words.slt_word (by omega) (by omega)]

include hv hb

/-- The precondition's ranks are the ranks. -/
theorem ranks_at (t : Fin 2048) : ranks v (ix1 t) = BitVec.ofNat 32 (rank E t) := by
  unfold ranks count
  refine (count_word (by norm_num) (andi (same v) earlier) _ _ _ t (fun j => E j = E t ∧ j.val < t.val) fun j => ?_).trans ?_
  · pointwise
    rw [same_at hv (fun t => by have := hb t; omega), earlier_at, Words.and_bit]
  · refine congrArg (fun s : Finset (Fin 2048) => BitVec.ofNat 32 s.card) (Finset.filter_congr fun j _ => ?_)
    rw [Fin.lt_def]; exact and_comm

/-- The precondition's mark of kept tokens. -/
theorem keep_at (t : Fin 2048) : keep v (ix1 t) = BitVec.ofBool (decide (rank E t < 25)) := by
  have hr := rank_lt (E := E) t
  unfold keep all
  pointwise
  rw [ranks_at hv hb, Words.slt_word (by omega) (by omega)]

/-- The precondition's loads are the places. -/
theorem load_at (t : Fin 2048) : load v (ix1 t) = BitVec.ofNat 32 (place E t) := by
  have h8 : ∀ t, Host.divsi v (all 8#32) (ix1 t) = BitVec.ofNat 32 (E t / 8) := fun t => by
    have := hb t
    unfold all
    pointwise
    rw [hv]
    exact Routing.divsi_word _ (by omega) (by omega) (by omega)
  have h256 : ∀ t, Host.divsi (iotaInDim S2048 32 0) (all 256#32) (ix1 t) = BitVec.ofNat 32 (t.val / 256) := fun t => by
    unfold all
    pointwise
    exact Routing.divsi_word _ (by omega) (by omega) (by omega)
  unfold load count
  refine (count_word (by norm_num) (loadMask v) _ _ _ t
    (fun j => ((j.val < t.val ∧ j.val / 256 = t.val / 256) ∧ E j / 8 = E t / 8) ∧ rank E j < 25) fun j => ?_).trans ?_
  · unfold loadMask
    pointwise
    rw [earlier_at, same_at h256 (fun t => by omega), same_at h8 (fun t => by have := hb t; omega), keep_at hv hb,
      Words.and_bit, Words.and_bit, Words.and_bit]
  · refine congrArg (fun s : Finset (Fin 2048) => BitVec.ofNat 32 s.card) (Finset.filter_congr fun j _ => ?_)
    rw [Fin.lt_def, and_assoc, and_assoc]

end

/-- What the precondition says of the route column. -/
theorem routed {x : FVec Ideal S2048x512 .f32} {r : FVec Ideal S512x64 .f32} {e : IVec S2048x1 32} {w : FVec Ideal S8x512x1024 .f32}
    (h : ∀ t : Fin 2048, fn (F := Ideal) x r e w (ix1 t) = 1#1) :
    ∃ E : Fin 2048 → ℕ, (∀ t, e (ix2 t 0) = BitVec.ofNat 32 (E t)) ∧ (∀ t, E t < 64) ∧ ∀ t, rank E t < 25 → place E t < 64 := by
  have hcol : ∀ t : Fin 2048, col e (ix1 t) = e (ix2 t 0) := fun t => by
    unfold col
    pointwise
  have hand : ∀ a b : BitVec 1, IntOp.andi a b = 1#1 → a = 1#1 ∧ b = 1#1 := by decide
  have hw : ∀ t, e (ix2 t 0) = BitVec.ofNat 32 (e (ix2 t 0)).toNat := fun t => by rw [BitVec.ofNat_toNat, BitVec.setWidth_eq]
  have hs : ∀ t, IntOp.andi (IntOp.andi (IntOp.cmpi .sge (e (ix2 t 0)) 0#32) (IntOp.cmpi .slt (e (ix2 t 0)) 64#32))
      (IntOp.ori (noti (keep (col e)) (ix1 t)) (IntOp.cmpi .slt (load (col e) (ix1 t)) 64#32)) = 1#1 := fun t => by
    rw [← hcol, ← h t, fn_eq]; rfl
  have hb : ∀ t, (e (ix2 t 0)).toNat < 64 := fun t => by
    obtain ⟨h1, h2⟩ := hand _ _ (hand _ _ (hs t)).1
    generalize e (ix2 t 0) = a at h1 h2
    have h1 : (0#32).sle a = true := (StableHlo.Predicate.ofBool_eq_one_iff _).mp h1
    have h2 : a.slt 64#32 = true := (StableHlo.Predicate.ofBool_eq_one_iff _).mp h2
    rw [BitVec.sle_iff_toInt_le] at h1
    rw [BitVec.slt_iff_toInt_lt] at h2
    have h3 : (0#32).toInt = 0 := by decide
    have h4 : (64#32).toInt = 64 := by decide
    rw [h3] at h1
    rw [h4] at h2
    rw [BitVec.toInt_eq_toNat_cond] at h1 h2
    have := a.isLt
    split_ifs at h1 h2 <;> omega
  have hv : ∀ t, col e (ix1 t) = BitVec.ofNat 32 (e (ix2 t 0)).toNat := fun t => (hcol t).trans (hw t)
  refine ⟨fun t => (e (ix2 t 0)).toNat, hw, hb, fun t hk => ?_⟩
  have h2 := (hand _ _ (hs t)).2
  rw [load_at hv hb, Words.slt_word (by have := place_lt (E := fun t => (e (ix2 t 0)).toNat) t; omega) (by omega)] at h2
  have h3 : noti (keep (col e)) (ix1 t) = ~~~(keep (col e) (ix1 t)) := rfl
  rw [h3, keep_at hv hb] at h2
  by_contra hp
  simp only [hk, hp, decide_true, decide_false] at h2
  exact absurd h2 (by decide)

end Pre_routed_KernelIdeal

end Cert
end
end
-- ==== Proof.Wanted.lean ====
/-
  The reference's result, entry by entry: a kept token's row times its expert's matrix, zero for the others.
-/
module

public import proofs.«01_k».proof.Proof.Gen.ReferenceIdeal.Run
public import proofs.«01_k».proof.Proof.Routed

@[expose] public section

noncomputable section

namespace Cert.ReferenceIdeal.Value

open Cert.ReferenceIdeal Cert.ReferenceIdeal.Gen Idealize.ShloMosaic Idealize.ShloMosaic.TcCoe Idealize.SL.Sem Cert.Tokens

set_option maxRecDepth 16384

def colR (e : IVec S2048x1 32) : IVec S2048 32 := shapeCast S2048 e shapeCasts_S2048x1_S2048
def asRowR (v : IVec S2048 32) : IVec S2048x2048 32 :=
  broadcastInDim S2048x2048 ![0, 1] bcast_S1x2048_S2048x2048_0_1 (broadcastInDim S1x2048 ![1] bcast_S2048_S1x2048_1 v)
def asColR (v : IVec S2048 32) : IVec S2048x2048 32 :=
  broadcastInDim S2048x2048 ![0, 1] bcast_S2048x1_S2048x2048_0_1 (broadcastInDim S2048x1 ![0] bcast_S2048_S2048x1_0 v)

/-- The number of earlier tokens of the same expert. -/
def ranksR (v : IVec S2048 32) : IVec S2048 32 :=
  Host.reduce IntOp.addi (extui 32 (andi (cmpi .eq (asRowR v) (asColR v))
    (cmpi .slt (asRowR (iotaInDim S2048 32 0)) (asColR (iotaInDim S2048 32 0)))) natLt_1_32) (constantI S_ 32 0#32)
    reducesTo_S2048x2048_S2048_d1 h_S_

/-- How the reference takes one matrix per token. -/
abbrev taken_dims : GatherDims S64x512x1024 S2048x1 S2048x512x1024 := gather_S64x512x1024_S2048x1_S2048x512x1024_12_0_n_n_0_1_15121024

/-- Each token's expert's matrix. -/
def taken (w : FVec Ideal S64x512x1024 .f32) (v : IVec S2048 32) : FVec Ideal S2048x512x1024 .f32 :=
  Host.gather taken_dims w (broadcastInDim S2048x1 ![0] bcast_S2048_S2048x1_0 v)

/-- The reference's result as one array of its arguments. -/
def wanted (x : FVec Ideal S2048x512 .f32) (e : IVec S2048x1 32) (w : FVec Ideal S64x512x1024 .f32) : FVec Ideal S2048x1024 .f32 :=
  select (broadcastInDim S2048x1024 ![0, 1] bcast_S2048x1_S2048x1024_0_1 (broadcastInDim S2048x1 ![0] bcast_S2048_S2048x1_0
      (cmpi .slt (ranksR (colR e)) (broadcastInDim S2048 ![] bcast_S_S2048 (constantI S_ 32 25#32)))))
    (Host.dotGeneral dot_S2048x512_S2048x512x1024_S2048x1024_1_1_n_2_0_0 none x (taken w (colR e)))
    (broadcastInDim S2048x1024 ![] bcast_S_S2048x1024 (constant S_ .f32 0x00000000#32))

section
variable {e : IVec S2048x1 32} {E : Fin 2048 → ℕ} (he : ∀ t, e (ix2 t 0) = BitVec.ofNat 32 (E t)) (hb : ∀ t, E t < 64)
include he hb

/-- The route of a token. -/
theorem colR_at (t : Fin 2048) : colR e (ix1 t) = BitVec.ofNat 32 (E t) := by
  unfold colR
  pointwise
  exact he t

/-- The reference's ranks are the ranks. -/
theorem ranksR_at (t : Fin 2048) : ranksR (colR e) (ix1 t) = BitVec.ofNat 32 (rank E t) := by
  unfold ranksR
  refine (count_word (by norm_num) _ _ _ _ t (fun j => E j = E t ∧ j.val < t.val) fun j => ?_).trans ?_
  · unfold asRowR asColR
    pointwise
    rw [colR_at he hb, colR_at he hb, Words.eq_word (by have := hb j; omega) (by have := hb t; omega),
      Words.slt_word (by omega) (by omega), Words.and_bit]
  · refine congrArg (fun s : Finset (Fin 2048) => BitVec.ofNat 32 s.card) (Finset.filter_congr fun j _ => ?_)
    rw [Fin.lt_def]; exact and_comm

/-- The matrix taken for a token is its expert's. -/
theorem taken_at (w : FVec Ideal S64x512x1024 .f32) (t : Fin 2048) (d : Fin 512) (h : Fin 1024) :
    taken w (colR e) (ix3 t d h) = w (ix3 ⟨E t, hb t⟩ d h) := by
  have hz : ∀ a : Fin 3, taken_dims.batchCoord (ix3 t d h) a = 0 := fun a => GatherDims.batchCoord_eq_zero _ _ _ List.not_mem_nil
  have hE := hb t
  have hi : (broadcastInDim S2048x1 ![0] bcast_S2048_S2048x1_0 (colR e)) (taken_dims.siIdx (ix3 t d h) ⟨0, by decide⟩)
      = BitVec.ofNat 32 (E t) := by
    refine (congrArg (broadcastInDim S2048x1 ![0] bcast_S2048_S2048x1_0 (colR e)) (?_ : _ = ix2 t 0)).trans ?_
    · funext b
      match b with
      | ⟨0, _⟩ => exact Fin.ext rfl
      | ⟨1, _⟩ => exact Fin.ext rfl
    · pointwise
      exact colR_at he hb t
  have h0 : taken_dims.start (ix3 t d h) (broadcastInDim S2048x1 ![0] bcast_S2048_S2048x1_0 (colR e)) 0 = E t := by
    refine (dif_pos (by decide)).trans ?_
    refine (congrArg (fun u : BitVec 32 => min u.toInt.toNat 63) hi).trans ?_
    rw [StableHlo.Predicate.toInt_eq_toNat_of_lt (by rw [BitVec.toNat_ofNat]; omega), BitVec.toNat_ofNat]
    omega
  have h1 : ∀ idx : IVec S2048x1 32, taken_dims.start (ix3 t d h) idx 1 = 0 := fun _ => dif_neg (show ¬(1 : Fin 3) ∈ [(0 : Fin 3)] by decide)
  have h2 : ∀ idx : IVec S2048x1 32, taken_dims.start (ix3 t d h) idx 2 = 0 := fun _ => dif_neg (show ¬(2 : Fin 3) ∈ [(0 : Fin 3)] by decide)
  unfold taken Host.gather
  refine congrArg w (funext fun a => Fin.ext ?_)
  change taken_dims.start (ix3 t d h) _ a + taken_dims.batchCoord (ix3 t d h) a + taken_dims.offCoord (ix3 t d h) a = _
  rw [hz]
  match a with
  | ⟨0, _⟩ => exact congrArg (fun n => n + 0 + 0) h0
  | ⟨1, _⟩ => exact (congrArg (fun n => n + 0 + d.val) (h1 _)).trans (Nat.zero_add _)
  | ⟨2, _⟩ => exact (congrArg (fun n => n + 0 + h.val) (h2 _)).trans (Nat.zero_add _)

/-- The reference's result: a kept token's row times its expert's matrix, else zero. -/
theorem wanted_at (x : FVec Ideal S2048x512 .f32) (w : FVec Ideal S64x512x1024 .f32) (t : Fin 2048) (h : Fin 1024) :
    (wanted x e w (ix2 t h) : EReal) = if rank E t < 25 then ∑ d : Fin 512, (x (ix2 t d) : EReal) * w (ix3 ⟨E t, hb t⟩ d h) else 0 := by
  have hr := rank_lt (E := E) t
  unfold wanted
  pointwise
  rw [ranksR_at he hb, Words.slt_word (by omega) (by omega), Words.select_bit]
  simp only [taken_at he hb]

end

/-- The reference's run: the result is `wanted` of the arguments, which end unchanged. -/
theorem run_wanted (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = wanted (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

/-- The reference's frame. -/
theorem frame_run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩) (run m ρ)

end Cert.ReferenceIdeal.Value
end
end
-- ==== Proof.Equation.lean ====
/-
  The equation: each device's result is its block of the reference's result.
-/
module

public import proofs.«01_k».proof.Defs
public import proofs.«01_k».proof.Proof.Arrays
public import proofs.«01_k».proof.Proof.Out
public import proofs.«01_k».proof.Proof.Frames
public import proofs.«01_k».proof.Proof.Wanted
public import Idealize.ShloMosaic.Lib.LayoutAt

@[expose] public section

noncomputable section

namespace Cert.Equation

open Idealize.ShloMosaic Idealize.ShloMosaic.TcCoe Idealize.SL.Sem Cert.Tokens

set_option maxRecDepth 16384

/-- A device's experts are eight successive ones of all. -/
theorem expert_block (X : (⟨3, ![64, 512, 1024]⟩ : Shape).Idx → EReal) (c : Fin 8) (l : Fin 8) (d : Fin 512) (h : Fin 1024) :
    (Layout.block ⟨3, ![8, 512, 1024]⟩ ⟨3, ![64, 512, 1024]⟩ 0 8 c X : (⟨3, ![8, 512, 1024]⟩ : Shape).Idx → EReal) (ix3 l d h)
      = X (ix3 ⟨8 * c.val + l.val, by omega⟩ d h) := by
  unfold Layout.block
  pointwise []
  shard_ext

/-- A device's result rows are 256 successive ones of all. -/
theorem result_block (X : (⟨2, ![2048, 1024]⟩ : Shape).Idx → EReal) (c : Fin 8) (i : Fin 256) (h : Fin 1024) :
    (Layout.block ⟨2, ![256, 1024]⟩ ⟨2, ![2048, 1024]⟩ 0 8 c X : (⟨2, ![256, 1024]⟩ : Shape).Idx → EReal) (ix2 i h)
      = X (ix2 ⟨256 * c.val + i.val, by omega⟩ h) := by
  unfold Layout.block
  pointwise []
  shard_ext

/-- Each device's result is its block of the reference's, under the precondition. -/
theorem out_block (m : (ℓ : Loc KernelIdeal.nD KernelIdeal.τ KernelIdeal.sig) → Buf (Elt Ideal) ℓ)
    (x : FVec Ideal ⟨2, ![2048, 512]⟩ .f32) (e : IVec ⟨2, ![2048, 1]⟩ 32) (w : FVec Ideal ⟨3, ![64, 512, 1024]⟩ .f32)
    (hx : ∀ c : Dev KernelIdeal.nD, m ((c.tc : Thread KernelIdeal.nD KernelIdeal.τ).loc KernelIdeal.main_arg0) = x)
    (he : ∀ c : Dev KernelIdeal.nD, m ((c.tc : Thread KernelIdeal.nD KernelIdeal.τ).loc KernelIdeal.main_arg2) = e)
    (hw : ∀ c : Dev KernelIdeal.nD, m ((c.tc : Thread KernelIdeal.nD KernelIdeal.τ).loc KernelIdeal.main_arg3)
      = Layout.block ⟨3, ![8, 512, 1024]⟩ ⟨3, ![64, 512, 1024]⟩ 0 8 c w)
    (hpre : Pre_KernelIdeal_routed_KernelIdeal m) (c : Dev KernelIdeal.nD) :
    KernelIdeal.Run.outAt m c
      = Layout.block ⟨2, ![256, 1024]⟩ ⟨2, ![2048, 1024]⟩ 0 8 c (ReferenceIdeal.Value.wanted x e w) := by
  obtain ⟨E, hE, hb, hp⟩ := Pre_routed_KernelIdeal.routed (fun t => congrFun (hpre c) (ix1 t))
  rw [he c] at hE
  funext y
  obtain ⟨i, h, rfl⟩ : ∃ (i : Fin 256) (h : Fin 1024), y = ix2 i h := ⟨y 0, y 1, by
    funext a
    match a with
    | 0 => rfl
    | 1 => rfl⟩
  have hc : c.val < 8 := c.isLt
  have h1 := KernelIdeal.Run.out_at m (E := E) (X := fun t d => x (ix2 t d)) (Y := fun q d h => w (ix3 q d h))
    (fun c t => by rw [KernelIdeal.Run.eAt_eq, he]; exact hE t) hb
    (fun c t d => by rw [KernelIdeal.Run.xAt_eq, hx])
    (fun c l d h => by rw [KernelIdeal.Run.wAt_eq, hw]; exact expert_block w c l d h)
    c i ⟨256 * c.val + i.val, by omega⟩ rfl (hp _) h
  have h2 := ReferenceIdeal.Value.wanted_at hE hb x w ⟨256 * c.val + i.val, by omega⟩ h
  exact h1.trans (h2.symm.trans (result_block _ c i h).symm)

/-- The two programs, run on agreeing arguments, end with agreeing results. -/
theorem algebraic : algebraic_KernelIdeal_ReferenceIdeal_pre_routed_KernelIdeal := by
  intro m g m' g' hpre hagree
  have hR := (θ_run _ _ _).mono (fun r h => h (0 : Dev ReferenceIdeal.nD)) (ReferenceIdeal.Value.run_wanted m' g')
  refine ⟨ReferenceIdeal.Value.wanted (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg2))
    (m' (((0 : Dev ReferenceIdeal.nD).tc : Thread ReferenceIdeal.nD ReferenceIdeal.τ).loc ReferenceIdeal.main_arg3)),
    (θ_run _ _ _).mono (fun r h c => ?_) (KernelIdeal.Run.run_main m g), hR⟩
  refine ⟨?_, KernelIdeal.Run.kept_of_QC m h.1 c⟩
  refine (((h.1 c).1 (3 : Fin 4)).trans (KernelIdeal.Run.arr_out m c)).trans ?_
  exact out_block m _ _ _ (fun c => (hagree c).1) (fun c => (hagree c).2.2.1) (fun c => (hagree c).2.2.2) hpre c

end Cert.Equation
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything claimed: the three frames, the idealization, and the equation. -/
theorem claim : Cert.Claim := ⟨Cert.Kernel.Gen.facts, Cert.KernelIdeal.Gen.facts, Cert.ReferenceIdeal.Gen.facts,
  Cert.Pre_routed_KernelIdeal.facts, Cert.Pre_routed_ReferenceIdeal.facts,
  fun m g _ => Cert.Kernel.Run.frame_run m g,
  fun m g _ => Cert.KernelIdeal.Run.frame_run m g,
  fun m g _ => Cert.KernelIdeal.Run.frame_run m g,
  fun m g _ => Cert.ReferenceIdeal.Value.frame_run m g,
  fun m g _ => Cert.ReferenceIdeal.Value.frame_run m g,
  trivial,
  Cert.Equation.algebraic⟩

end Cert.Proof

end
